-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_v193) = v1 c
          ∧ r.2.mem ((c.tc : Thread Cert.ReferenceIdeal.nD Cert.ReferenceIdeal.τ).loc Cert.ReferenceIdeal.main_v159) = v2 c
          ∧ r.2.mem ((c.tc : Thread Cert.ReferenceIdeal.nD Cert.ReferenceIdeal.τ).loc Cert.ReferenceIdeal.main_v159) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S3x32x32 : Shape := ⟨3, ![3, 32, 32]⟩
abbrev S1025x3073 : Shape := ⟨2, ![1025, 3073]⟩
abbrev S16x3x4x4 : Shape := ⟨4, ![16, 3, 4, 4]⟩
abbrev S16 : Shape := ⟨1, ![16]⟩
abbrev S1024 : Shape := ⟨1, ![1024]⟩
abbrev S_ : Shape := ⟨0, ![]⟩
abbrev S1024x3073 : Shape := ⟨2, ![1024, 3073]⟩

class Facts : Prop where
  bcast_S_S16x3x4x4 : S_.BroadcastsInDim S16x3x4x4 (![] : Fin 0 → Fin S16x3x4x4.rank)
  reducesTo_S16x3x4x4_S_d0_1_2_3 : S16x3x4x4.ReducesTo [0, 1, 2, 3] S_
  h_S_ : 0 < S_.numel
  bcast_S_S16 : S_.BroadcastsInDim S16 (![] : Fin 0 → Fin S16.rank)
  reducesTo_S16_S_d0 : S16.ReducesTo [0] S_
  slices_S1025x3073_S1024x3073_0_0 : S1025x3073.Slices ![0, 0] S1024x3073
  bcast_S_S1024x3073 : S_.BroadcastsInDim S1024x3073 (![] : Fin 0 → Fin S1024x3073.rank)
  reducesTo_S1024x3073_S_d0_1 : S1024x3073.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg8 : FVec F S1024 .f32) (main_v14 : IVec S_ 1) (main_v15 : FVec F S1024 .f32) (main_v16 : FVec F S1024 .f32) : IVec S_ 1 :=
  let main_v17 : IVec S1024 1 := cmpf .olt main_v15 main_v16
  let main_c_5 : IVec S_ 1 := constantI S_ 1 1#1
  let main_v18 : IVec S_ 1 := (fun x v => Host.reduce IntOp.andi x v reducesTo_S1024_S_d0 h_S_) main_v17 main_c_5
  let main_v19 : IVec S_ 1 := andi main_v14 main_v18
  let main_v20 : FVec F S1024 .f32 := Host.absf main_arg8
  let main_cst_6 : FVec F S_ .f32 := constant S_ .f32 0x7F800000#32
  let main_v21 : FVec F S1024 .f32 := broadcastInDim S1024 ![] bcast_S_S1024 main_cst_6
  let main_v22 : IVec S1024 1 := cmpf .olt main_v20 main_v21
  let main_c_7 : IVec S_ 1 := constantI S_ 1 1#1
  let main_v23 : IVec S_ 1 := (fun x v => Host.reduce IntOp.andi x v reducesTo_S1024_S_d0 h_S_) main_v22 main_c_7
  let main_v24 : IVec S_ 1 := andi main_v19 main_v23
  main_v24

def fn {F : FTy → Type} [FloatOps F] (main_arg0 : FVec F S3x32x32 .f32) (main_arg1 : FVec F S3x32x32 .f32) (main_arg2 : FVec F S1025x3073 .f32) (main_arg3 : FVec F S1025x3073 .f32) (main_arg4 : FVec F S16x3x4x4 .f32) (main_arg5 : FVec F S16 .f32) (main_arg6 : FVec F S1025x3073 .f32) (main_arg7 : FVec F S1024 .f32) (main_arg8 : FVec F S1024 .f32) : IVec S_ 1 :=
  let main_v0 : FVec F S16x3x4x4 .f32 := Host.absf main_arg4
  let main_cst : FVec F S_ .f32 := constant S_ .f32 0x7F800000#32
  let main_v1 : FVec F S16x3x4x4 .f32 := broadcastInDim S16x3x4x4 ![] bcast_S_S16x3x4x4 main_cst
  let main_v2 : IVec S16x3x4x4 1 := cmpf .olt main_v0 main_v1
  let main_c : IVec S_ 1 := constantI S_ 1 1#1
  let main_v3 : IVec S_ 1 := (fun x v => Host.reduce IntOp.andi x v reducesTo_S16x3x4x4_S_d0_1_2_3 h_S_) main_v2 main_c
  let main_v4 : FVec F S16 .f32 := Host.absf main_arg5
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  let main_v9 : FVec F S1024x3073 .f32 := (extractStridedSlice S1024x3073 ![0, 0] · slices_S1025x3073_S1024x3073_0_0) main_arg6
  let main_v10 : FVec F S1024x3073 .f32 := Host.absf main_v9
  let main_cst_2 : FVec F S_ .f32 := constant S_ .f32 0x7F800000#32
  let main_v11 : FVec F S1024x3073 .f32 := broadcastInDim S1024x3073 ![] bcast_S_S1024x3073 main_cst_2
  let main_v12 : IVec S1024x3073 1 := cmpf .olt main_v10 main_v11
  let main_c_3 : IVec S_ 1 := constantI S_ 1 1#1
  let main_v13 : IVec S_ 1 := (fun x v => Host.reduce IntOp.andi x v reducesTo_S1024x3073_S_d0_1 h_S_) main_v12 main_c_3
  let main_v14 : IVec S_ 1 := andi main_v8 main_v13
  let main_v15 : FVec F S1024 .f32 := Host.absf main_arg7
  let main_cst_4 : FVec F S_ .f32 := constant S_ .f32 0x7F800000#32
  let main_v16 : FVec F S1024 .f32 := broadcastInDim S1024 ![] bcast_S_S1024 main_cst_4
  fn_part1 (F := F) main_arg8 main_v14 main_v15 main_v16
-- ==== Kernel.lean ====
abbrev S3x32x32 : Shape := ⟨3, ![3, 32, 32]⟩
abbrev S1025x3073 : Shape := ⟨2, ![1025, 3073]⟩
abbrev S16x3x4x4 : Shape := ⟨4, ![16, 3, 4, 4]⟩
abbrev S16 : Shape := ⟨1, ![16]⟩
abbrev S1024 : Shape := ⟨1, ![1024]⟩
abbrev S3073x4097 : Shape := ⟨2, ![3073, 4097]⟩
abbrev S4x1x4x4 : Shape := ⟨4, ![4, 1, 4, 4]⟩
abbrev S1024x1024 : Shape := ⟨2, ![1024, 1024]⟩
abbrev S32x16 : Shape := ⟨2, ![32, 16]⟩
abbrev S1x1x1x1 : Shape := ⟨4, ![1, 1, 1, 1]⟩
abbrev S32x1024 : Shape := ⟨2, ![32, 1024]⟩
abbrev S16x256 : Shape := ⟨2, ![16, 256]⟩
abbrev S4096 : Shape := ⟨1, ![4096]⟩
abbrev S_ : Shape := ⟨0, ![]⟩
abbrev S1 : Shape := ⟨1, ![1]⟩
abbrev S4097 : Shape := ⟨1, ![4097]⟩
abbrev S1025 : Shape := ⟨1, ![1025]⟩
abbrev S1x1025 : Shape := ⟨2, ![1, 1025]⟩
abbrev S1x4608 : Shape := ⟨2, ![1, 4608]⟩
abbrev S3073x512 : Shape := ⟨2, ![3073, 512]⟩
abbrev S1x512 : Shape := ⟨2, ![1, 512]⟩
abbrev S1025x512 : Shape := ⟨2, ![1025, 512]⟩
abbrev S1x4096 : Shape := ⟨2, ![1, 4096]⟩
abbrev S16x16x16 : Shape := ⟨3, ![16, 16, 16]⟩

abbrev nBuf : Space → Nat
  | .hbm => 42
  | .vmem => 13
  | .smem => 0
  | _ => 0

abbrev bufTy : (tb : Table) → Fin (tcTables nBuf tb) → BufTy
  | .hbm, ⟨0, _⟩ => ⟨S3x32x32, .f32⟩
  | .hbm, ⟨1, _⟩ => ⟨S3x32x32, .f32⟩
  | .hbm, ⟨2, _⟩ => ⟨S1025x3073, .f32⟩
  | .hbm, ⟨3, _⟩ => ⟨S1025x3073, .f32⟩
  | .hbm, ⟨4, _⟩ => ⟨S16x3x4x4, .f32⟩
  | .hbm, ⟨5, _⟩ => ⟨S16, .f32⟩
  | .hbm, ⟨6, _⟩ => ⟨S1025x3073, .f32⟩
  | .hbm, ⟨7, _⟩ => ⟨S1024, .f32⟩
  | .hbm, ⟨8, _⟩ => ⟨S1024, .f32⟩
  | .hbm, ⟨9, _⟩ => ⟨S3073x4097, .f32⟩
  | .hbm, ⟨10, _⟩ => ⟨S16x256, .f32⟩
  | .hbm, ⟨11, _⟩ => ⟨S4096, .f32⟩
  | .hbm, ⟨12, _⟩ => ⟨S_, .f32⟩
  | .hbm, ⟨13, _⟩ => ⟨S1, .f32⟩
  | .hbm, ⟨14, _⟩ => ⟨S4097, .f32⟩
  | .hbm, ⟨15, _⟩ => ⟨S_, .i32⟩
  | .hbm, ⟨16, _⟩ => ⟨S1, .i32⟩
  | .hbm, ⟨17, _⟩ => ⟨S3073x4097, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1, .f32⟩
  | .hbm, ⟨28, _⟩ => ⟨S1025, .f32⟩
  | .hbm, ⟨29, _⟩ => ⟨S1x1025, .f32⟩
  | .hbm, ⟨30, _⟩ => ⟨S_, .f32⟩
  | .hbm, ⟨31, _⟩ => ⟨S1, .f32⟩
  | .hbm, ⟨32, _⟩ => ⟨S1025, .f32⟩
  | .hbm, ⟨33, _⟩ => ⟨S1x1025, .f32⟩
  | .hbm, ⟨34, _⟩ => ⟨S1x4608, .f32⟩
  | .hbm, ⟨35, _⟩ => ⟨S1x4608, .f32⟩
  | .hbm, ⟨36, _⟩ => ⟨S1x4096, .f32⟩
  | .hbm, ⟨37, _⟩ => ⟨S4096, .f32⟩
  | .hbm, ⟨38, _⟩ => ⟨S16x16x16, .f32⟩
  | .hbm, ⟨39, _⟩ => ⟨S1x4096, .f32⟩
  | .hbm, ⟨40, _⟩ => ⟨S4096, .f32⟩
  | .hbm, ⟨41, _⟩ => ⟨S16x16x16, .f32⟩
  | .local _ .vmem, ⟨0, _⟩ => ⟨S4x1x4x4, .f32⟩
  | .local _ .vmem, ⟨1, _⟩ => ⟨S4x1x4x4, .f32⟩
  | .local _ .vmem, ⟨2, _⟩ => ⟨S1024x1024, .f32⟩
  | .local _ .vmem, ⟨3, _⟩ => ⟨S1024x1024, .f32⟩
  | .local _ .vmem, ⟨4, _⟩ => ⟨S1025x3073, .f32⟩
  | .local _ .vmem, ⟨5, _⟩ => ⟨S3073x512, .f32⟩
  | .local _ .vmem, ⟨6, _⟩ => ⟨S3073x512, .f32⟩
  | .local _ .vmem, ⟨7, _⟩ => ⟨S1x1025, .f32⟩
  | .local _ .vmem, ⟨8, _⟩ => ⟨S1x1025, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | _, _ => ⟨S3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19_0 : Ref sig .tc := ⟨.hbm, 34, rfl⟩
abbrev main_v19_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem4_1 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := ⟨2, ![4, 5], ![false, false]⟩

def cc0_transform_0 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c2_i32 : BitVec 32 := 2#32
  let v1 : BitVec 32 := Scalar.minsi arg0 c2_i32
  let c0_i32 : BitVec 32 := 0#32
  let c0_i32_0 : BitVec 32 := 0#32
  let c0_i32_1 : BitVec 32 := 0#32
  ![v0.toNat, v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4x1x4x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![9], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1025x3073 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S3073x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1025 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1025 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S3x32x32 : Shape := ⟨3, ![3, 32, 32]⟩
abbrev S1025x3073 : Shape := ⟨2, ![1025, 3073]⟩
abbrev S16x3x4x4 : Shape := ⟨4, ![16, 3, 4, 4]⟩
abbrev S16 : Shape := ⟨1, ![16]⟩
abbrev S1024 : Shape := ⟨1, ![1024]⟩
abbrev S_ : Shape := ⟨0, ![]⟩
abbrev S3072 : Shape := ⟨1, ![3072]⟩
abbrev S3072x3072 : Shape := ⟨2, ![3072, 3072]⟩
abbrev S3072x3x32x32 : Shape := ⟨4, ![3072, 3, 32, 32]⟩
abbrev S3x34x34 : Shape := ⟨3, ![3, 34, 34]⟩
abbrev S3072x3x34x34 : Shape := ⟨4, ![3072, 3, 34, 34]⟩
abbrev S16x16x16 : Shape := ⟨3, ![16, 16, 16]⟩
abbrev S3x16x16 : Shape := ⟨3, ![3, 16, 16]⟩
abbrev S3072x3x16x16 : Shape := ⟨4, ![3072, 3, 16, 16]⟩
abbrev S16x3x1x1 : Shape := ⟨4, ![16, 3, 1, 1]⟩
abbrev S16x3 : Shape := ⟨2, ![16, 3]⟩
abbrev S16x3072x16x16 : Shape := ⟨4, ![16, 3072, 16, 16]⟩
abbrev S4096 : Shape := ⟨1, ![4096]⟩
abbrev S3072x16x16x16 : Shape := ⟨4, ![3072, 16, 16, 16]⟩
abbrev S3072x4096 : Shape := ⟨2, ![3072, 4096]⟩
abbrev S4096x3072 : Shape := ⟨2, ![4096, 3072]⟩
abbrev S16x256 : Shape := ⟨2, ![16, 256]⟩
abbrev S3073x4097 : Shape := ⟨2, ![3073, 4097]⟩
abbrev S1 : Shape := ⟨1, ![1]⟩
abbrev S2 : Shape := ⟨1, ![2]⟩
abbrev S1025x4097 : Shape := ⟨2, ![1025, 4097]⟩
abbrev S1024x4097 : Shape := ⟨2, ![1024, 4097]⟩
abbrev S1x4097 : Shape := ⟨2, ![1, 4097]⟩
abbrev S4097 : Shape := ⟨1, ![4097]⟩
abbrev S1x4096 : Shape := ⟨2, ![1, 4096]⟩

abbrev nBuf : Space → Nat
  | .hbm => 224
  | .vmem => 0
  | .smem => 0
  | _ => 0

abbrev hbmTy0_0 (i : Nat) : BufTy := match i % 128 with
  | 0 => ⟨S3x32x32, .f32⟩
  | 1 => ⟨S3x32x32, .f32⟩
  | 2 => ⟨S1025x3073, .f32⟩
  | 3 => ⟨S1025x3073, .f32⟩
  | 4 => ⟨S16x3x4x4, .f32⟩
  | 5 => ⟨S16, .f32⟩
  | 6 => ⟨S1025x3073, .f32⟩
  | 7 => ⟨S1024, .f32⟩
  | 8 => ⟨S1024, .f32⟩
  | 9 => ⟨S_, .f32⟩
  | 10 => ⟨S3072, .f32⟩
  | 11 => ⟨S3072x3072, .i32⟩
  | 12 => ⟨S3072x3072, .i32⟩
  | 13 => ⟨S_, .i32⟩
  | 14 => ⟨S3072x3072, .i32⟩
  | 15 => ⟨S3072x3072, .i32⟩
  | 16 => ⟨S3072x3072, .i1⟩
  | 17 => ⟨S3072x3072, .f32⟩
  | 18 => ⟨S3072x3072, .f32⟩
  | 19 => ⟨S3x32x32, .f32⟩
  | 20 => ⟨S3072x3x32x32, .f32⟩
  | 21 => ⟨S_, .i32⟩
  | 22 => ⟨S_, .f32⟩
  | 23 => ⟨S3x34x34, .f32⟩
  | 24 => ⟨S_, .f32⟩
  | 25 => ⟨S3072x3x34x34, .f32⟩
  | 26 => ⟨S_, .f32⟩
  | 27 => ⟨S16x16x16, .f32⟩
  | 28 => ⟨S3x16x16, .f32⟩
  | 29 => ⟨S3072x3x16x16, .f32⟩
  | 30 => ⟨S16x3x1x1, .f32⟩
  | 31 => ⟨S16x3, .f32⟩
  | 32 => ⟨S16x16x16, .f32⟩
  | 33 => ⟨S16x3072x16x16, .f32⟩
  | 34 => ⟨S16x16x16, .f32⟩
  | 35 => ⟨S3x16x16, .f32⟩
  | 36 => ⟨S3072x3x16x16, .f32⟩
  | 37 => ⟨S16x3x1x1, .f32⟩
  | 38 => ⟨S16x3, .f32⟩
  | 39 => ⟨S16x16x16, .f32⟩
  | 40 => ⟨S16x3072x16x16, .f32⟩
  | 41 => ⟨S16x16x16, .f32⟩
  | 42 => ⟨S16x3072x16x16, .f32⟩
  | 43 => ⟨S3x16x16, .f32⟩
  | 44 => ⟨S3072x3x16x16, .f32⟩
  | 45 => ⟨S16x3x1x1, .f32⟩
  | 46 => ⟨S16x3, .f32⟩
  | 47 => ⟨S16x16x16, .f32⟩
  | 48 => ⟨S16x3072x16x16, .f32⟩
  | 49 => ⟨S16x16x16, .f32⟩
  | 50 => ⟨S16x3072x16x16, .f32⟩
  | 51 => ⟨S3x16x16, .f32⟩
  | 52 => ⟨S3072x3x16x16, .f32⟩
  | 53 => ⟨S16x3x1x1, .f32⟩
  | 54 => ⟨S16x3, .f32⟩
  | 55 => ⟨S16x16x16, .f32⟩
  | 56 => ⟨S16x3072x16x16, .f32⟩
  | 57 => ⟨S16x16x16, .f32⟩
  | 58 => ⟨S16x3072x16x16, .f32⟩
  | 59 => ⟨S3x16x16, .f32⟩
  | 60 => ⟨S3072x3x16x16, .f32⟩
  | 61 => ⟨S16x3x1x1, .f32⟩
  | 62 => ⟨S16x3, .f32⟩
  | 63 => ⟨S16x16x16, .f32⟩
  | 64 => ⟨S16x3072x16x16, .f32⟩
  | 65 => ⟨S16x16x16, .f32⟩
  | 66 => ⟨S16x3072x16x16, .f32⟩
  | 67 => ⟨S3x16x16, .f32⟩
  | 68 => ⟨S3072x3x16x16, .f32⟩
  | 69 => ⟨S16x3x1x1, .f32⟩
  | 70 => ⟨S16x3, .f32⟩
  | 71 => ⟨S16x16x16, .f32⟩
  | 72 => ⟨S16x3072x16x16, .f32⟩
  | 73 => ⟨S16x16x16, .f32⟩
  | 74 => ⟨S16x3072x16x16, .f32⟩
  | 75 => ⟨S3x16x16, .f32⟩
  | 76 => ⟨S3072x3x16x16, .f32⟩
  | 77 => ⟨S16x3x1x1, .f32⟩
  | 78 => ⟨S16x3, .f32⟩
  | 79 => ⟨S16x16x16, .f32⟩
  | 80 => ⟨S16x3072x16x16, .f32⟩
  | 81 => ⟨S16x16x16, .f32⟩
  | 82 => ⟨S16x3072x16x16, .f32⟩
  | 83 => ⟨S3x16x16, .f32⟩
  | 84 => ⟨S3072x3x16x16, .f32⟩
  | 85 => ⟨S16x3x1x1, .f32⟩
  | 86 => ⟨S16x3, .f32⟩
  | 87 => ⟨S16x16x16, .f32⟩
  | 88 => ⟨S16x3072x16x16, .f32⟩
  | 89 => ⟨S16x16x16, .f32⟩
  | 90 => ⟨S16x3072x16x16, .f32⟩
  | 91 => ⟨S3x16x16, .f32⟩
  | 92 => ⟨S3072x3x16x16, .f32⟩
  | 93 => ⟨S16x3x1x1, .f32⟩
  | 94 => ⟨S16x3, .f32⟩
  | 95 => ⟨S16x16x16, .f32⟩
  | 96 => ⟨S16x3072x16x16, .f32⟩
  | 97 => ⟨S16x16x16, .f32⟩
  | 98 => ⟨S16x3072x16x16, .f32⟩
  | 99 => ⟨S3x16x16, .f32⟩
  | 100 => ⟨S3072x3x16x16, .f32⟩
  | 101 => ⟨S16x3x1x1, .f32⟩
  | 102 => ⟨S16x3, .f32⟩
  | 103 => ⟨S16x16x16, .f32⟩
  | 104 => ⟨S16x3072x16x16, .f32⟩
  | 105 => ⟨S16x16x16, .f32⟩
  | 106 => ⟨S16x3072x16x16, .f32⟩
  | 107 => ⟨S3x16x16, .f32⟩
  | 108 => ⟨S3072x3x16x16, .f32⟩
  | 109 => ⟨S16x3x1x1, .f32⟩
  | 110 => ⟨S16x3, .f32⟩
  | 111 => ⟨S16x16x16, .f32⟩
  | 112 => ⟨S16x3072x16x16, .f32⟩
  | 113 => ⟨S16x16x16, .f32⟩
  | 114 => ⟨S16x3072x16x16, .f32⟩
  | 115 => ⟨S3x16x16, .f32⟩
  | 116 => ⟨S3072x3x16x16, .f32⟩
  | 117 => ⟨S16x3x1x1, .f32⟩
  | 118 => ⟨S16x3, .f32⟩
  | 119 => ⟨S16x16x16, .f32⟩
  | 120 => ⟨S16x3072x16x16, .f32⟩
  | 121 => ⟨S16x16x16, .f32⟩
  | 122 => ⟨S16x3072x16x16, .f32⟩
  | 123 => ⟨S3x16x16, .f32⟩
  | 124 => ⟨S3072x3x16x16, .f32⟩
  | 125 => ⟨S16x3x1x1, .f32⟩
  | 126 => ⟨S16x3, .f32⟩
  | 127 => ⟨S16x16x16, .f32⟩
  | _ => ⟨S3x32x32, .f32⟩

abbrev hbmTy0_1 (i : Nat) : BufTy := match i % 128 with
  | 0 => ⟨S16x3072x16x16, .f32⟩
  | 1 => ⟨S16x16x16, .f32⟩
  | 2 => ⟨S16x3072x16x16, .f32⟩
  | 3 => ⟨S3x16x16, .f32⟩
  | 4 => ⟨S3072x3x16x16, .f32⟩
  | 5 => ⟨S16x3x1x1, .f32⟩
  | 6 => ⟨S16x3, .f32⟩
  | 7 => ⟨S16x16x16, .f32⟩
  | 8 => ⟨S16x3072x16x16, .f32⟩
  | 9 => ⟨S16x16x16, .f32⟩
  | 10 => ⟨S16x3072x16x16, .f32⟩
  | 11 => ⟨S3x16x16, .f32⟩
  | 12 => ⟨S3072x3x16x16, .f32⟩
  | 13 => ⟨S16x3x1x1, .f32⟩
  | 14 => ⟨S16x3, .f32⟩
  | 15 => ⟨S16x16x16, .f32⟩
  | 16 => ⟨S16x3072x16x16, .f32⟩
  | 17 => ⟨S16x16x16, .f32⟩
  | 18 => ⟨S16x3072x16x16, .f32⟩
  | 19 => ⟨S3x16x16, .f32⟩
  | 20 => ⟨S3072x3x16x16, .f32⟩
  | 21 => ⟨S16x3x1x1, .f32⟩
  | 22 => ⟨S16x3, .f32⟩
  | 23 => ⟨S16x16x16, .f32⟩
  | 24 => ⟨S16x3072x16x16, .f32⟩
  | 25 => ⟨S16x16x16, .f32⟩
  | 26 => ⟨S16x3072x16x16, .f32⟩
  | 27 => ⟨S4096, .f32⟩
  | 28 => ⟨S3072x16x16x16, .f32⟩
  | 29 => ⟨S3072x4096, .f32⟩
  | 30 => ⟨S4096x3072, .f32⟩
  | 31 => ⟨S4096x3072, .f32⟩
  | 32 => ⟨S16x256, .f32⟩
  | 33 => ⟨S4096, .f32⟩
  | 34 => ⟨S_, .f32⟩
  | 35 => ⟨S3073x4097, .f32⟩
  | 36 => ⟨S3072x4096, .f32⟩
  | 37 => ⟨S_, .i32⟩
  | 38 => ⟨S1, .i32⟩
  | 39 => ⟨S_, .i32⟩
  | 40 => ⟨S1, .i32⟩
  | 41 => ⟨S2, .i32⟩
  | 42 => ⟨S3073x4097, .f32⟩
  | 43 => ⟨S_, .i32⟩
  | 44 => ⟨S1, .i32⟩
  | 45 => ⟨S_, .i32⟩
  | 46 => ⟨S1, .i32⟩
  | 47 => ⟨S2, .i32⟩
  | 48 => ⟨S3073x4097, .f32⟩
  | 49 => ⟨S_, .i32⟩
  | 50 => ⟨S1, .i32⟩
  | 51 => ⟨S_, .i32⟩
  | 52 => ⟨S1, .i32⟩
  | 53 => ⟨S2, .i32⟩
  | 54 => ⟨S_, .f32⟩
  | 55 => ⟨S3073x4097, .f32⟩
  | 56 => ⟨S1025x4097, .f32⟩
  | 57 => ⟨S1024x4097, .f32⟩
  | 58 => ⟨S1x4097, .f32⟩
  | 59 => ⟨S4097, .f32⟩
  | 60 => ⟨S_, .f32⟩
  | 61 => ⟨S1024x4097, .f32⟩
  | 62 => ⟨S1024x4097, .f32⟩
  | 63 => ⟨S_, .f32⟩
  | 64 => ⟨S1024x4097, .f32⟩
  | 65 => ⟨S1024x4097, .f32⟩
  | 66 => ⟨S4097, .f32⟩
  | 67 => ⟨S4097, .f32⟩
  | 68 => ⟨S4097, .f32⟩
  | 69 => ⟨S4097, .f32⟩
  | 70 => ⟨S_, .i32⟩
  | 71 => ⟨S1, .i32⟩
  | 72 => ⟨S1025x4097, .f32⟩
  | 73 => ⟨S1025x4097, .f32⟩
  | 74 => ⟨S1024x4097, .f32⟩
  | 75 => ⟨S1x4097, .f32⟩
  | 76 => ⟨S4097, .f32⟩
  | 77 => ⟨S_, .f32⟩
  | 78 => ⟨S1024x4097, .f32⟩
  | 79 => ⟨S1024x4097, .f32⟩
  | 80 => ⟨S_, .f32⟩
  | 81 => ⟨S1024x4097, .f32⟩
  | 82 => ⟨S1024x4097, .f32⟩
  | 83 => ⟨S4097, .f32⟩
  | 84 => ⟨S4097, .f32⟩
  | 85 => ⟨S4097, .f32⟩
  | 86 => ⟨S4097, .f32⟩
  | 87 => ⟨S_, .i32⟩
  | 88 => ⟨S1, .i32⟩
  | 89 => ⟨S1025x4097, .f32⟩
  | 90 => ⟨S1x4096, .f32⟩
  | 91 => ⟨S4096, .f32⟩
  | 92 => ⟨S16x16x16, .f32⟩
  | 93 => ⟨S1x4096, .f32⟩
  | 94 => ⟨S4096, .f32⟩
  | 95 => ⟨S16x16x16, .f32⟩
  | _ => ⟨S3x32x32, .f32⟩

abbrev hbmTy (i : Nat) : BufTy := match i / 128 with
  | 0 => hbmTy0_0 i
  | 1 => hbmTy0_1 i
  | _ => ⟨S3x32x32, .f32⟩

abbrev bufTy : (tb : Table) → Fin (tcTables nBuf tb) → BufTy
  | .hbm, ⟨i, _⟩ => hbmTy i
  | _, _ => ⟨S3x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_call0_v0 : Ref sig .tc := ⟨.hbm, 22, rfl⟩
abbrev main_v10_0 : Ref sig .tc := ⟨.hbm, 23, rfl⟩
abbrev main_call0_cst : Ref sig .tc := ⟨.hbm, 24, rfl⟩
abbrev main_v10_1 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_cst_2 : Ref sig .tc := ⟨.hbm, 162, rfl⟩
abbrev main_v146 : Ref sig .tc := ⟨.hbm, 163, rfl⟩
abbrev main_v147 : Ref sig .tc := ⟨.hbm, 164, rfl⟩
abbrev main_c_3 : Ref sig .tc := ⟨.hbm, 165, rfl⟩
abbrev main_v148 : Ref sig .tc := ⟨.hbm, 166, rfl⟩
abbrev main_c_4 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_c_5 : Ref sig .tc := ⟨.hbm, 171, rfl⟩
abbrev main_v152 : Ref sig .tc := ⟨.hbm, 172, rfl⟩
abbrev main_c_6 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_c_7 : Ref sig .tc := ⟨.hbm, 177, rfl⟩
abbrev main_v156 : Ref sig .tc := ⟨.hbm, 178, rfl⟩
abbrev main_c_8 : Ref sig .tc := ⟨.hbm, 179, rfl⟩
abbrev main_v157 : Ref sig .tc := ⟨.hbm, 180, rfl⟩
abbrev main_v158 : Ref sig .tc := ⟨.hbm, 181, rfl⟩
abbrev main_cst_9 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_cst_10 : Ref sig .tc := ⟨.hbm, 188, rfl⟩
abbrev main_v164 : Ref sig .tc := ⟨.hbm, 189, rfl⟩
abbrev main_v165 : Ref sig .tc := ⟨.hbm, 190, rfl⟩
abbrev main_cst_11 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_c_12 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_cst_13 : Ref sig .tc := ⟨.hbm, 205, rfl⟩
abbrev main_v178 : Ref sig .tc := ⟨.hbm, 206, rfl⟩
abbrev main_v179 : Ref sig .tc := ⟨.hbm, 207, rfl⟩
abbrev main_cst_14 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_c_15 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩

abbrev nD : Nat := 1
abbrev τ : Topo := Topo.v7x

variable {F : FTy → Type} [FloatOps F]
-- ==== Proof.TapBlock.lean ====
/- The nonzero block of the map's matrix, as a function of its sixteen tiles: 32 bands of 64 tiles, each tile one of the
   sixteen or zero. -/
module

public import proofs.«01_k».proof.Proof.Gen.KernelIdeal.Skeleton
public import Idealize.ShloMosaic.Lib.Pipeline.FrameBody
public import Idealize.ShloMosaic.Lib.Pipeline.ValueKit.Basic
public import Idealize.ShloMosaic.Lib.Pipeline.Value
public import Idealize.ShloMosaic.Lib.Tactic

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The 32 × 16 tile of zeros. -/
abbrev ztile : FVec F S32x16 .f32 := broadcast S32x16 (Scalar.ofBits .f32 0x00000000#32 : F .f32)

/-- The tile at band `ih` and piece `p = 16 u + oh`: the tile of channel `u` and kernel row `ih + 1 - 2 oh` where that is a
    kernel row, the zero tile elsewhere. -/
def piece (T : Fin 4 → Fin 4 → FVec F S32x16 .f32) (ih : Fin 32) (p : Fin 64) : FVec F S32x16 .f32 :=
  if h : 2 * (p.val % 16) ≤ ih.val + 1 ∧ ih.val + 1 - 2 * (p.val % 16) < 4 then
    T ⟨p.val / 16, Nat.div_lt_of_lt_mul p.isLt⟩ ⟨ih.val + 1 - 2 * (p.val % 16), h.2⟩
  else ztile

/-- The pieces of one band lie along its columns. -/
theorem band_cat (f : Fin 64 → FVec F S32x16 .f32) :
    Shape.Concatenates ((List.ofFn fun p : Fin 64 => (⟨S32x16, f p⟩ : (s : Shape) × (s.Idx → F .f32))).map (·.1)) S32x1024 1 := by
  rw [List.map_ofFn]
  exact concatenates_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x16_S32x1024_d1

/-- One band: its 64 pieces side by side. -/
def band (T : Fin 4 → Fin 4 → FVec F S32x16 .f32) (ih : Fin 32) : FVec F S32x1024 .f32 :=
  concatenate S32x1024 1 (List.ofFn fun p : Fin 64 => ⟨S32x16, piece T ih p⟩) (band_cat _)

/-- The bands lie along the rows. -/
theorem bands_cat (f : Fin 32 → FVec F S32x1024 .f32) :
    Shape.Concatenates ((List.ofFn fun p : Fin 32 => (⟨S32x1024, f p⟩ : (s : Shape) × (s.Idx → F .f32))).map (·.1)) S1024x1024 0 := by
  rw [List.map_ofFn]
  exact concatenates_S32x1024_S32x1024_S32x1024_S32x1024_S32x1024_S32x1024_S32x1024_S32x1024_S32x1024_S32x1024_S32x1024_S32x1024_S32x1024_S32x1024_S32x1024_S32x1024_S32x1024_S32x1024_S32x1024_S32x1024_S32x1024_S32x1024_S32x1024_S32x1024_S32x1024_S32x1024_S32x1024_S32x1024_S32x1024_S32x1024_S32x1024_S32x1024_S1024x1024_d0

/-- The block: its 32 bands one above the other. -/
def bands (T : Fin 4 → Fin 4 → FVec F S32x16 .f32) : FVec F S1024x1024 .f32 :=
  concatenate S1024x1024 0 (List.ofFn fun ih : Fin 32 => ⟨S32x1024, band T ih⟩) (bands_cat _)

set_option maxRecDepth 65536 in
set_option maxHeartbeats 4000000 in
/-- The last payload of the body is the block of bands over its tiles. -/
theorem pay41_eq (T : Fin 4 → Fin 4 → FVec F S32x16 .f32) (v13 : IVec S32x16 32) (v395 : FVec F S32x16 .f32) (v397 : IVec S32x16 1)
    (v398 v404 v410 : Vec F S1x1x1x1 .f32)
    (h : T 3 3 = select (cmpi .eq v13 (broadcast S32x16 3#32)) (broadcast S32x16 (extractAt ![0, 0, 0, 0] v410 inpos_S1x1x1x1_p0_0_0_0))
      (select (cmpi .eq v13 (broadcast S32x16 2#32)) (broadcast S32x16 (extractAt ![0, 0, 0, 0] v404 inpos_S1x1x1x1_p0_0_0_0))
        (select v397 (broadcast S32x16 (extractAt ![0, 0, 0, 0] v398 inpos_S1x1x1x1_p0_0_0_0)) v395))) :
    k0_pay41 v13 (T 0 0) (T 0 1) (T 0 2) (T 0 3) (T 1 0) (T 1 1) (T 1 2) (T 1 3) (T 2 0) (T 2 1) (T 2 2) (T 2 3) (T 3 0) (T 3 1) (T 3 2) v395 v397 v398 v404 v410 = bands T := by
  unfold k0_pay41
  dsimp only
  rw [← h]
  rfl

end Cert.Proof.Run

end
-- ==== Proof.Body0.lean ====
/- The first pallas_call's body, run once at arbitrary operands: where the grid point lies under the convolution, the
   block of tiles built from the sixteen-by-four weights it loads; elsewhere the block of zeros. -/
module

public import proofs.«01_k».proof.Proof.TapBlock
public import proofs.«01_k».proof.Proof.Gen.KernelIdeal.Launch
public import proofs.«01_k».proof.Proof.Gen.KernelIdeal.Points
public import Idealize.ShloMosaic.Lib.Ring

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- One weight of the staged block lies inside it. -/
theorem inb_w (u kh kw : Fin 4) : ∀ a, (![u.val, 0, kh.val, kw.val] : Fin 4 → ℕ) a + S1x1x1x1.size a ≤ S4x1x4x4.size a := by
  revert u kh kw; decide

/-- The weight of channel `u`, kernel row `kh` and kernel column `kw` as the body reads it. -/
def wAt (w : Vec F S4x1x4x4 .f32) (u kh kw : Fin 4) : F .f32 :=
  extractAt ![0, 0, 0, 0] (View.ld w (Rect.unit (s := S4x1x4x4) ![u.val, 0, kh.val, kw.val] S1x1x1x1.size (inb_w u kh kw)) : Vec F S1x1x1x1 .f32)
    inpos_S1x1x1x1_p0_0_0_0

/-- The tile of channel `u` and kernel row `kh`: at input column `iw` and output column `ow` the weight of kernel column
    `iw - 2 ow + 1`, zero where that is none. -/
def tile (w : Vec F S4x1x4x4 .f32) (u kh : Fin 4) : FVec F S32x16 .f32 :=
  select (cmpi .eq k0_pay2 (broadcast S32x16 3#32)) (broadcast S32x16 (wAt w u kh 3))
    (select (cmpi .eq k0_pay2 (broadcast S32x16 2#32)) (broadcast S32x16 (wAt w u kh 2))
      (select (cmpi .eq k0_pay2 (broadcast S32x16 1#32)) (broadcast S32x16 (wAt w u kh 1))
        (select (cmpi .eq k0_pay2 (broadcast S32x16 0#32)) (broadcast S32x16 (wAt w u kh 0)) ztile)))

/-- The body's test: the grid point lies under the convolution. -/
abbrev inConv (i : grid0.Coords) : BitVec 1 :=
  Scalar.cmpi .ne (Scalar.extui (Scalar.andi (Scalar.cmpi .slt (BitVec.ofNat 32 (i 0).val) 3#32) (Scalar.cmpi .slt (BitVec.ofNat 32 (i 1).val) 4#32)) : BitVec 32) 0#32

/-- The block the body leaves at grid point `i`. -/
def aBlock (i : grid0.Coords) (w : Vec F S4x1x4x4 .f32) : FVec F S1024x1024 .f32 :=
  if inConv i = 1#1 then bands (tile w) else k0_pay1

/-- The rectangle of one whole output block. -/
abbrev rBlk : Rect S1024x1024 := Rect.unit (s := S1024x1024) ![0, 0] S1024x1024.size inb_S1024x1024_S1024x1024_0_0

/-- One store through the whole block covers every index of it. -/
theorem cover_blk (p : Vec F S1024x1024 .f32) (y : S1024x1024.Idx) :
    ∃ pc ∈ ([⟨rBlk, p⟩] : List (View.Piece (Elt F) S1024x1024 .f32)), y ∈ pc.1.set :=
  View.cover_of_tiled [⟨rBlk, p⟩] S1024x1024.size (by rfl) y

set_option maxRecDepth 65536 in
set_option maxHeartbeats 8000000 in
/-- From its input block and its output block held whole, the first body runs to its end with the input as it was and the
    output at `aBlock`. -/
theorem build_run (c : Dev nD) (E : Set ℕ) (i : grid0.Coords)
    (arg2 : Memref sig .tc .vmem S4x1x4x4 .f32) (harg2 : arg2.IsWhole) (arg3 : Memref sig .tc .vmem S1024x1024 .f32) (harg3 : arg3.IsWhole)
    (x0 : Vec F S4x1x4x4 .f32) (x1 : Vec F S1024x1024 .f32) (K : PUnit → sProp 𝕄) :
    iprop(owns (c : Thread nD τ) arg2 fullShare x0 ∗ owns (c : Thread nD τ) arg3 fullShare x1
        ∗ (iprop(owns (c : Thread nD τ) arg2 fullShare x0 ∗ owns (c : Thread nD τ) arg3 fullShare (aBlock i x0)) -∗ K ⟨⟩))
      ⊢ wp frame (wpE (defs₀ (F := F)) Variants.none c none) E (cc0__a_build_kernel i arg2 harg2 arg3 harg3) K := by
  simp only [cc0__a_build_kernel_eq_skeleton]; unfold cc0__a_build_kernel_skel
  unfold owns
  iintro ⟨⟨%f0, %hf0, H0⟩, ⟨%f1, -, H1⟩, Hk⟩
  subst hf0
  by_cases hc : inConv i = 1#1
  · unfold aBlock
    simp only [dif_pos hc, if_pos hc]
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold k0_part1_skel k0_part2_skel k0_part3_skel k0_part4_skel k0_part5_skel k0_part6_skel k0_part7_skel k0_part8_skel k0_part9_skel k0_part10_skel k0_part11_skel k0_part12_skel k0_part13_skel
    sl_exec
    sl_step
    iapply Hk
    isplitl [H0]
    · iexists f0; isplitr; · ipureintro; rfl
      iexact H0
    iexists _; isplitr
    swap; · iexact H1
    ipureintro
    refine (View.read_writes_eq_canon _ _ _ (cover_blk _)).trans ?_
    rw [View.canon_cons_unit_lit _ _ _ (by decide)]
    exact pay41_eq (tile (arg2.view.read (Elt F) f0)) _ _ _ _ _ _ rfl
  · unfold aBlock
    simp only [dif_neg hc, if_neg hc]
    sl_exec
    sl_step
    iapply Hk
    isplitl [H0]
    · iexists f0; isplitr; · ipureintro; rfl
      iexact H0
    iexists _; isplitr
    swap; · iexact H1
    ipureintro
    refine (View.read_writes_eq_canon _ _ _ (cover_blk _)).trans ?_
    rw [View.canon_cons_unit_lit _ _ _ (by decide)]

end Cert.Proof.Run

end
-- ==== Proof.Body1.lean ====
/- The second pallas_call's body, run once at arbitrary operands: four loads of whole blocks, two stores of whole blocks. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit.Basic
public import Idealize.ShloMosaic.Lib.Ring
public import Idealize.ShloMosaic.Lib.Tactic

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The rectangle of one whole output row of 512 columns. -/
abbrev rRow : Rect S1x512 := Rect.unit (s := S1x512) ![0, 0] S1x512.size inb_S1x512_S1x512_0_0

/-- One store through the whole row covers every index of it. -/
theorem cover_row (p : Vec F S1x512 .f32) (y : S1x512.Idx) :
    ∃ pc ∈ ([⟨rRow, p⟩] : List (View.Piece (Elt F) S1x512 .f32)), y ∈ pc.1.set :=
  View.cover_of_tiled [⟨rRow, p⟩] S1x512.size (by rfl) y

set_option maxHeartbeats 1000000 in
/-- From its four input blocks and its two output blocks held whole, the bounds body runs to its end with the inputs as
    they were and the outputs at the difference and the sum of the two products. -/
theorem bounds_run (c : Dev nD) (E : Set ℕ) (i : grid1.Coords)
    (arg1 : Memref sig .tc .vmem S1025x3073 .f32) (harg1 : arg1.IsWhole) (arg2 : Memref sig .tc .vmem S3073x512 .f32) (harg2 : arg2.IsWhole)
    (arg3 : Memref sig .tc .vmem S1x1025 .f32) (harg3 : arg3.IsWhole) (arg4 : Memref sig .tc .vmem S1x1025 .f32) (harg4 : arg4.IsWhole)
    (arg5 : Memref sig .tc .vmem S1x512 .f32) (harg5 : arg5.IsWhole) (arg6 : Memref sig .tc .vmem S1x512 .f32) (harg6 : arg6.IsWhole)
    (x0 : Vec F S1025x3073 .f32) (x1 : Vec F S3073x512 .f32) (x2 x3 : Vec F S1x1025 .f32) (x4 x5 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k1_pay4 x0 x1 x2 x3)
            ∗ owns (c : Thread nD τ) arg6 fullShare (k1_pay5 x0 x1 x2 x3)) -∗ K ⟨⟩))
      ⊢ wp frame (wpE (defs₀ (F := F)) Variants.none c none) E
          (cc1__bounds_kernel i arg1 harg1 arg2 harg2 arg3 harg3 arg4 harg4 arg5 harg5 arg6 harg6) K := by
  simp only [cc1__bounds_kernel_eq_skeleton]; unfold cc1__bounds_kernel_skel
  unfold owns
  iintro ⟨⟨%f0, %hf0, H0⟩, ⟨%f1, %hf1, H1⟩, ⟨%f2, %hf2, H2⟩, ⟨%f3, %hf3, H3⟩, ⟨%f4, -, H4⟩, ⟨%f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover_row _)).trans ?_
    rw [View.canon_cons_unit_lit _ _ _ (by decide)]
    simp only [View.readAt_eq_ld]
    rw [View.ld_unit_lit _ _ (by decide), View.ld_unit_lit _ _ (by decide), View.ld_unit_lit _ _ (by decide), View.ld_unit_lit _ _ (by decide)]
  iexists _; isplitr
  swap; · iexact H5
  ipureintro
  refine (View.read_writes_eq_canon _ _ _ (cover_row _)).trans ?_
  rw [View.canon_cons_unit_lit _ _ _ (by decide)]
  simp only [View.readAt_eq_ld]
  rw [View.ld_unit_lit _ _ (by decide), View.ld_unit_lit _ _ (by decide), View.ld_unit_lit _ _ (by decide), View.ld_unit_lit _ _ (by decide)]

end Cert.Proof.Run

end
-- ==== Proof.RegionData.lean ====
/- What the two pallas_calls are run with: the proof data of the first, exact, and of the second, relational (its array
   window's last block hangs over the array's edge, and what a staging buffer holds there is anything), each with its body
   obligation. -/
module

public import proofs.«01_k».proof.Proof.Body0
public import proofs.«01_k».proof.Proof.Body1
public import proofs.«01_k».proof.Proof.Gen.KernelIdeal.Regions
public import Idealize.ShloMosaic.Lib.Pipeline.ArrRel
public import Idealize.ShloMosaic.Lib.Pipeline.RegionsOwned

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The block of weights the first call's body reads at point `t`. -/
def wBlk (c : Dev nD) (t : Fin cfg0.N) : Vec F S4x1x4x4 .f32 :=
  (cfg0.win 0).fill (cfg0.grid.coords t) (fun _ => FloatOps.ofBits .f32 0#32)
    (((cfg0.win 0).blk t).view.read (Elt F) (V0 m c main_arg4))

/-- The first call's proof data: its arrays as launched; the weights are left, the output block is `aBlock`. -/
def dat0 (c : Dev nD) : Dat τ (Elt F) Unit ℕ (UR sig nD τ) ℕ cfg0 c where
  A w := V0 m c (Proc.devRef .tc (Pipeline.arrRef spec0 w))
  after w t := match w with
    | 0 => wBlk m c t
    | 1 => aBlock (grid0.coords t) (wBlk m c t)
  Φ _ := Pipeline.scopedRest spec0 c
  q _ := fullShare
  owed _ := 0

/-- What the first body finds in its input window is the block of weights. -/
theorem before0_0 (c : Dev nD) (t : Fin cfg0.N) (d : (cfg0.win 0).block.Idx → Elt F (cfg0.win 0).elt) :
    (dat0 m c).before 0 t d = wBlk m c t := by
  refine ((dat0 m c).before_in_eq_fetched 0 rfl (fun _ => rfl) (fun _ _ _ => rfl) (fun t => ?_) t d).trans ?_
  · exact (cfg0.win 0).cut_fill _ (fun _ => FloatOps.ofBits .f32 0#32) _
  · exact (dat0 m c).fetched_of_clip_none 0 t (fun _ => rfl) _ _

set_option backward.isDefEq.respectTransparency.types false in
/-- The first call's body obligation. -/
theorem body0 (c : Dev nD) : BodyObligation (dat0 m c) (defs₀ (F := F)) Variants.none () Set.univ := fun t => by
  rw [bigSep_W0, bigSep_W0]
  show iprop(Pipeline.scopedRest spec0 c ∗ (dat0 m c).owesAt () 0
      ∗ (∃ d, owns (c : Thread nD τ) (st0_0 t) fullShare ((dat0 m c).before 0 t d))
      ∗ (∃ d, owns (c : Thread nD τ) (st0_1 t) fullShare ((dat0 m c).before 1 t d)))
    ⊢ wp frame (wpE (defs₀ (F := F)) Variants.none c none) Set.univ (bodyAt0 t) fun _ =>
      iprop(Pipeline.scopedRest spec0 c ∗ (dat0 m c).owesAt () 0
        ∗ owns (c : Thread nD τ) (st0_0 t) fullShare (wBlk m c t)
        ∗ owns (c : Thread nD τ) (st0_1 t) fullShare (aBlock (grid0.coords t) (wBlk m c t)))
  iintro ⟨HΦ, HO, ⟨%d0, H0⟩, ⟨%d1, H1⟩⟩
  rw [before0_0]
  iapply (build_run c Set.univ (grid0.coords t) (st0_0 t) _ (st0_1 t) _ (wBlk m c t) ((dat0 m c).before 1 t d1))
  isplitl [H0]; · iexact H0
  isplitl [H1]; · iexact H1
  iintro ⟨H0, H1⟩
  isplitl [HΦ]; · iexact HΦ
  isplitl [HO]; · iexact HO
  isplitl [H0] <;> iassumption

/-- What the first call leaves in the matrix's array. -/
def res0 (c : Dev nD) : Buf (Elt F) ((c : Thread nD τ).loc main_v0) := (dat0 m c).arrAt 1 cfg0.N

/-- Core `c`'s buffers after the first call. -/
def W1 (c : Dev nD) : Valuation τ sig (Elt F) := Function.update (V0 m c) main_v0 (res0 m c)
/-- Core `c`'s buffers when the second call starts. -/
def W2 (c : Dev nD) : Valuation τ sig (Elt F) := StableHlo.after hostOps1 (W1 m c)

/-- What a fetch of window `w` of the second call puts at point `t` in a staging buffer that held `d`. -/
def fetch1 (c : Dev nD) (w : Fin cfg1.W) (t : Fin cfg1.N) (d : (cfg1.win w).block.Idx → Elt F (cfg1.win w).elt) :
    (cfg1.win w).block.Idx → Elt F (cfg1.win w).elt :=
  (cfg1.win w).fill (cfg1.grid.coords t) d (((cfg1.win w).blk t).view.read (Elt F) (W2 m c (Proc.devRef .tc (Pipeline.arrRef spec1 w))))

/-- The second call's proof data: its arrays as the host left them; its four inputs are left as found; each output block is
    the body's payload at the whole matrix of constraints, at SOME fetch of the tile, and at the two rows. -/
def rd1 (c : Dev nD) : RDat τ (Elt F) Unit ℕ (UR sig nD τ) ℕ cfg1 c where
  A w := W2 m c (Proc.devRef .tc (Pipeline.arrRef spec1 w))
  after w t Y X := match w with
    | 0 => X = Y
    | 1 => X = Y
    | 2 => X = Y
    | 3 => X = Y
    | 4 => ∃ (x0 : Vec F S1025x3073 .f32) (x1 : Vec F S3073x512 .f32) (x2 x3 : Vec F S1x1025 .f32),
        (∃ d, x0 = fetch1 m c 0 t d)
        ∧ (∃ d, x1 = fetch1 m c 1 t d)
        ∧ (∃ d, x2 = fetch1 m c 2 t d)
        ∧ (∃ d, x3 = fetch1 m c 3 t d)
        ∧ X = k1_pay4 x0 x1 x2 x3
    | 5 => ∃ (x0 : Vec F S1025x3073 .f32) (x1 : Vec F S3073x512 .f32) (x2 x3 : Vec F S1x1025 .f32),
        (∃ d, x0 = fetch1 m c 0 t d)
        ∧ (∃ d, x1 = fetch1 m c 1 t d)
        ∧ (∃ d, x2 = fetch1 m c 2 t d)
        ∧ (∃ d, x3 = fetch1 m c 3 t d)
        ∧ X = k1_pay5 x0 x1 x2 x3
  Φ _ := Pipeline.scopedRest spec1 c
  q _ := fullShare
  owed _ := 0

/-- The relation of output window 4 holds of the payload at blocks the input windows may hold. -/
theorem after1_4 (c : Dev nD) (t : Fin cfg1.N) (Y : (w : Fin cfg1.W) → (cfg1.win w).block.Idx → Elt F (cfg1.win w).elt)
    (h0 : ∃ d, Y 0 = fetch1 m c 0 t d) (h1 : ∃ d, Y 1 = fetch1 m c 1 t d)
    (h2 : ∃ d, Y 2 = fetch1 m c 2 t d) (h3 : ∃ d, Y 3 = fetch1 m c 3 t d) :
    (rd1 m c).after 4 t (Y 4) (k1_pay4 (Y 0) (Y 1) (Y 2) (Y 3)) := by
  have key : ∀ X : Vec F S1x512 .f32, X = k1_pay4 (Y 0) (Y 1) (Y 2) (Y 3) → (rd1 m c).after 4 t (Y 4) X :=
    fun X hX => ⟨Y 0, Y 1, Y 2, Y 3, h0, h1, h2, h3, hX⟩
  exact key _ rfl

/-- The relation of output window 5 holds of the payload at blocks the input windows may hold. -/
theorem after1_5 (c : Dev nD) (t : Fin cfg1.N) (Y : (w : Fin cfg1.W) → (cfg1.win w).block.Idx → Elt F (cfg1.win w).elt)
    (h0 : ∃ d, Y 0 = fetch1 m c 0 t d) (h1 : ∃ d, Y 1 = fetch1 m c 1 t d)
    (h2 : ∃ d, Y 2 = fetch1 m c 2 t d) (h3 : ∃ d, Y 3 = fetch1 m c 3 t d) :
    (rd1 m c).after 5 t (Y 5) (k1_pay5 (Y 0) (Y 1) (Y 2) (Y 3)) := by
  have key : ∀ X : Vec F S1x512 .f32, X = k1_pay5 (Y 0) (Y 1) (Y 2) (Y 3) → (rd1 m c).after 5 t (Y 5) X :=
    fun X hX => ⟨Y 0, Y 1, Y 2, Y 3, h0, h1, h2, h3, hX⟩
  exact key _ rfl

/-- Where a window of the second call is fetched, its body finds what the fetch put there. -/
theorem found_fetched (c : Dev nD) (w : Fin cfg1.W) (t : Fin cfg1.N) (hf : (cfg1.win w).fetch t = true)
    (Y : (cfg1.win w).block.Idx → Elt F (cfg1.win w).elt) (hY : (rd1 m c).Finds w t Y) : ∃ d, Y = fetch1 m c w t d :=
  ((rd1 m c).finds_of_fetch hf Y).mp hY

set_option backward.isDefEq.respectTransparency.types false in
/-- The second call's body obligation. -/
theorem body1 (c : Dev nD) : (rd1 m c).BodyObligation (defs₀ (F := F)) Variants.none () Set.univ := fun t Y hY => by
  have h0 : ∃ d, Y 0 = fetch1 m c 0 t d := (rd1 m c).finds_in_eq_fetched 0 rfl (fun _ _ _ => rfl) (fun _ _ _ h => h) t (Y 0) (hY 0)
  have h1 : ∃ d, Y 1 = fetch1 m c 1 t d := found_fetched m c 1 t (fetch1_1 t) (Y 1) (hY 1)
  have h2 : ∃ d, Y 2 = fetch1 m c 2 t d := (rd1 m c).finds_in_eq_fetched 2 rfl (fun _ _ _ => rfl) (fun _ _ _ h => h) t (Y 2) (hY 2)
  have h3 : ∃ d, Y 3 = fetch1 m c 3 t d := (rd1 m c).finds_in_eq_fetched 3 rfl (fun _ _ _ => rfl) (fun _ _ _ h => h) t (Y 3) (hY 3)
  have h4 := after1_4 m c t Y h0 h1 h2 h3
  have h5 := after1_5 m c t Y h0 h1 h2 h3
  rw [bigSep_W1, bigSep_W1]
  show iprop(Pipeline.scopedRest spec1 c ∗ (rd1 m c).owesAt () 0
      ∗ owns (c : Thread nD τ) (st1_0 t) fullShare (Y 0) ∗ owns (c : Thread nD τ) (st1_1 t) fullShare (Y 1)
      ∗ owns (c : Thread nD τ) (st1_2 t) fullShare (Y 2) ∗ owns (c : Thread nD τ) (st1_3 t) fullShare (Y 3)
      ∗ owns (c : Thread nD τ) (st1_4 t) fullShare (Y 4) ∗ owns (c : Thread nD τ) (st1_5 t) fullShare (Y 5))
    ⊢ wp frame (wpE (defs₀ (F := F)) Variants.none c none) Set.univ (bodyAt1 t) fun _ =>
      iprop(Pipeline.scopedRest spec1 c ∗ (rd1 m c).owesAt () 0
      ∗ (∃ X, ⌜(rd1 m c).after 0 t (Y 0) X⌝ ∗ owns (c : Thread nD τ) (st1_0 t) fullShare X)
      ∗ (∃ X, ⌜(rd1 m c).after 1 t (Y 1) X⌝ ∗ owns (c : Thread nD τ) (st1_1 t) fullShare X)
      ∗ (∃ X, ⌜(rd1 m c).after 2 t (Y 2) X⌝ ∗ owns (c : Thread nD τ) (st1_2 t) fullShare X)
      ∗ (∃ X, ⌜(rd1 m c).after 3 t (Y 3) X⌝ ∗ owns (c : Thread nD τ) (st1_3 t) fullShare X)
      ∗ (∃ X, ⌜(rd1 m c).after 4 t (Y 4) X⌝ ∗ owns (c : Thread nD τ) (st1_4 t) fullShare X)
      ∗ (∃ X, ⌜(rd1 m c).after 5 t (Y 5) X⌝ ∗ owns (c : Thread nD τ) (st1_5 t) fullShare X))
  iintro ⟨HΦ, HO, H0, H1, H2, H3, H4, H5⟩
  iapply (bounds_run c Set.univ (grid1.coords t) (st1_0 t) _ (st1_1 t) _ (st1_2 t) _ (st1_3 t) _ (st1_4 t) _ (st1_5 t) _
    (Y 0) (Y 1) (Y 2) (Y 3) (Y 4) (Y 5))
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [HO]; · iexact HO
  isplitl [H0]
  · iexists (Y 0); isplitr; · ipureintro; exact rfl
    iexact H0
  isplitl [H1]
  · iexists (Y 1); isplitr; · ipureintro; exact rfl
    iexact H1
  isplitl [H2]
  · iexists (Y 2); isplitr; · ipureintro; exact rfl
    iexact H2
  isplitl [H3]
  · iexists (Y 3); isplitr; · ipureintro; exact rfl
    iexact H3
  isplitl [H4]
  · iexists (k1_pay4 (Y 0) (Y 1) (Y 2) (Y 3)); isplitr
    · ipureintro; exact h4
    iexact H4
  iexists (k1_pay5 (Y 0) (Y 1) (Y 2) (Y 3)); isplitr
  · ipureintro; exact h5
  iexact H5

end Cert.Proof.Run

end
-- ==== Proof.Run.lean ====
/- @main run from the launch: the first call, the host's stretch, the second call, the host's last stretch. Every weakly
   fair execution ends; the arguments are as launched, every counter is zero, and the results are the last valuation at some
   contents the second call may have left. -/
module

public import proofs.«01_k».proof.Proof.RegionData
public import Idealize.ShloMosaic.Lib.Pipeline.RegionArrays

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.Pipeline (HostSeg)

variable (m : (ℓ : Loc nD τ sig) → Buf (Elt F) ℓ)

/-- The two calls' proof data. -/
def rdats : (p : Fin 2) → (c : Dev nD) → RDat τ (Elt F) Unit ℕ (UR sig nD τ) ℕ (cfgs p) c
  | 0, c => (dat0 m c).toR
  | 1, c => rd1 m c

/-- Contents the second call may leave in its windows' arrays. -/
abbrev Left (c : Dev nD) : Type :=
  {G : (w : Fin cfg1.W) → Buf (Elt F) ((cfg1.win w).arr.view.loc (c.tc : Thread nD τ)) // ∀ w, (rd1 m c).ArrAt w cfg1.N (G w)}

/-- Core `c`'s buffers after the second call, its results' arrays at `G`. -/
def W3 (c : Dev nD) (G : Left m c) : Valuation τ sig (Elt F) :=
  Function.update (Function.update (W2 m c) main_v19_0 (G.1 4)) main_v19_1 (G.1 5)
/-- Core `c`'s buffers at the end. -/
def W4 (c : Dev nD) (G : Left m c) : Valuation τ sig (Elt F) := StableHlo.after hostOps2 (W3 m c G)

theorem W1_of (c : Dev nD) (r : Ref sig .tc) (h : r ≠ main_v0) : W1 m c r = V0 m c r :=
  Function.update_of_ne (StableHlo.devRef_ne_of_ne h) _ _
theorem W2_of (c : Dev nD) (r : Ref sig .tc) (h : r ∉ hostOps1_W) : W2 m c r = W1 m c r :=
  StableHlo.after_of_writes_sub hostOps1 _ hostOps1_writes h
theorem W3_of (c : Dev nD) (G : Left m c) (r : Ref sig .tc) (h0 : r ≠ main_v19_0) (h1 : r ≠ main_v19_1) : W3 m c G r = W2 m c r :=
  (Function.update_of_ne (StableHlo.devRef_ne_of_ne h1) _ _).trans (Function.update_of_ne (StableHlo.devRef_ne_of_ne h0) _ _)
theorem W4_of (c : Dev nD) (G : Left m c) (r : Ref sig .tc) (h : r ∉ hostOps2_W) : W4 m c G r = W3 m c G r :=
  StableHlo.after_of_writes_sub hostOps2 _ hostOps2_writes h

/-- A buffer no item writes is at the end as launched. -/
theorem W4_kept (c : Dev nD) (G : Left m c) (r : Ref sig .tc) (h : r ∉ hostOps2_W) (h0 : r ≠ main_v19_0) (h1 : r ≠ main_v19_1)
    (h2 : r ∉ hostOps1_W) (h3 : r ≠ main_v0) : W4 m c G r = m ((c : Thread nD τ).loc r) :=
  (W4_of m c G r h).trans <| (W3_of m c G r h0 h1).trans <| (W2_of m c r h2).trans (W1_of m c r h3)

/-- What a core owes beside its buffers: nothing. -/
abbrev rest (c : Dev nD) : sProp 𝕄 := iprop(∃ W, owes (c.tc : Thread nD τ) (0 : CellTallies nD τ sig Unit) W)

/-- No operand is prefetched. -/
theorem pref_none (p : Fin 2) (c : Dev nD) :
    (Pipeline.prefHeld (pcfgs (F := F) p).pre c (fun _ => fullShare) ((adm (F := F)) p).1 : sProp 𝕄) = BI.emp := by
  refine Pipeline.prefHeld_of_none _ ?_ _ _ _
  match p with | 0 => rfl | 1 => rfl

set_option backward.isDefEq.respectTransparency.types false in
/-- The first call's arrays and the other buffers, put back together after it. -/
theorem join0 (c : Dev nD) :
    iprop((dat0 m c).arrays ((dat0 m c).arrAt · cfg0.N) ∗ Pipeline.unscopedRest spec0 c (fun b => V0 m c (Proc.devRef .tc b)))
      ⊢ (StableHlo.held (c.tc : Thread nD τ) (Pipeline.ucRefs τ sig) (W1 m c) : sProp 𝕄) := by
  rw [show StableHlo.held (c.tc : Thread nD τ) (Pipeline.ucRefs τ sig) (W1 m c) = unscopedBufs c (fun b => W1 m c (Proc.devRef .tc b))
      from (Pipeline.unscopedBufs_held (Ix := Unit) (Name := ℕ) (U := UR sig nD τ) (Lvl := ℕ) c (W1 m c)).symm]
  have h := Pipeline.unscopedBufs_of_arrays (p := (0 : Fin 2)) (pcfgs (F := F)) adm (Ix := Unit) (Name := ℕ) (U := UR sig nD τ) (Lvl := ℕ)
    launch0.win launch0.arr_whole c (fun p c => (rdats m p c).withAfter fun _ _ _ => Classical.arbitrary _)
    (fun w => by match w with | 0 => rfl | 1 => rfl)
    (fun b => V0 m c (Proc.devRef .tc b)) (fun b => W1 m c (Proc.devRef .tc b)) ((dat0 m c).arrAt · cfg0.N)
    (fun w => by
      match w with
      | 0 => exact ((dat0 m c).arrAt_in 0 rfl _).trans (W1_of m c main_arg4 (by decide)).symm
      | 1 => exact (Function.update_self (f := V0 m c) (Proc.devRef .tc main_v0) (res0 m c)).symm)
    (fun b hb => W1_of m c b fun e => hb (e ▸ Finset.mem_image.mpr ⟨1, Finset.mem_univ _, rfl⟩))
  exact h

set_option backward.isDefEq.respectTransparency.types false in
/-- The second call's arrays, at contents it may leave, and the other buffers, put back together after it. -/
theorem join1 (c : Dev nD) (G : Left m c) :
    iprop((rd1 m c).arrays G.1 ∗ Pipeline.unscopedRest spec1 c (fun b => W2 m c (Proc.devRef .tc b)))
      ⊢ (StableHlo.held (c.tc : Thread nD τ) (Pipeline.ucRefs τ sig) (W3 m c G) : sProp 𝕄) := by
  rw [show StableHlo.held (c.tc : Thread nD τ) (Pipeline.ucRefs τ sig) (W3 m c G) = unscopedBufs c (fun b => W3 m c G (Proc.devRef .tc b))
      from (Pipeline.unscopedBufs_held (Ix := Unit) (Name := ℕ) (U := UR sig nD τ) (Lvl := ℕ) c (W3 m c G)).symm]
  have hne : ∀ w : Fin cfg1.W, (cfg1.win w).isOut = false → Pipeline.arrRef spec1 w ≠ main_v19_0 ∧ Pipeline.arrRef spec1 w ≠ main_v19_1 := by decide
  have hout : ∀ w : Fin cfg1.W, ¬ (cfg1.win w).isOut = false → w = 4 ∨ w = 5 := by decide
  have hin : ∀ w : Fin cfg1.W, (cfg1.win w).isOut = false → G.1 w = (rd1 m c).A w := fun w hw => by
    have := G.2 w; rw [(rd1 m c).ArrAt_in w hw cfg1.N] at this; exact this
  have h := Pipeline.unscopedBufs_of_arrays (p := (1 : Fin 2)) (pcfgs (F := F)) adm (Ix := Unit) (Name := ℕ) (U := UR sig nD τ) (Lvl := ℕ)
    launch1.win launch1.arr_whole c (fun p c => (rdats m p c).withAfter fun _ _ _ => Classical.arbitrary _)
    (fun w => by match w with | 0 => rfl | 1 => rfl | 2 => rfl | 3 => rfl | 4 => rfl | 5 => rfl)
    (fun b => W2 m c (Proc.devRef .tc b)) (fun b => W3 m c G (Proc.devRef .tc b)) G.1
    (fun w => by
      by_cases hw : (cfg1.win w).isOut = false
      · exact (hin w hw).trans (W3_of m c G (Pipeline.arrRef spec1 w) (hne w hw).1 (hne w hw).2).symm
      · rcases hout w hw with rfl | rfl
        · exact ((Function.update_of_ne (StableHlo.devRef_ne_of_ne (show main_v19_0 ≠ main_v19_1 by decide)) _ _).trans
            (Function.update_self (f := W2 m c) (Proc.devRef .tc main_v19_0) (G.1 4))).symm
        · exact (Function.update_self (f := Function.update (W2 m c) main_v19_0 (G.1 4)) (Proc.devRef .tc main_v19_1) (G.1 5)).symm)
    (fun b hb => W3_of m c G b (fun e => hb (e ▸ Finset.mem_image.mpr ⟨4, Finset.mem_univ _, rfl⟩))
      (fun e => hb (e ▸ Finset.mem_image.mpr ⟨5, Finset.mem_univ _, rfl⟩)))
  exact h

set_option backward.isDefEq.respectTransparency.types false in
/-- The first call as a segment of @main. -/
def region0 : Pipeline.RDat.RegionSeg (pcfgs (F := F)) adm (rdats m) () defs₀ Variants.none (fun _ => ∅) (fun _ _ => (0 : ℕ)) 0 where
  win := launch0.win.to₀
  block_pos := launch0.block_pos
  stage_whole := launch0.stage_whole
  K := PEmpty
  osem := fun k => k.elim
  ho := .none _
  hbody c := (body0 m c).loose.toR
  hwaits := Pipeline.RDat.hwaits_of_owed_zero (pcfgs (F := F)) adm (rdats m) () (fun _ => ∅) (fun _ _ => (0 : ℕ)) 0 fun _ _ => rfl
  pre c := iprop(StableHlo.held (c.tc : Thread nD τ) (Pipeline.ucRefs τ sig) (V0 m c) ∗ rest c)
  post c := iprop(StableHlo.held (c.tc : Thread nD τ) (Pipeline.ucRefs τ sig) (W1 m c) ∗ rest c)
  X _ := iprop(emp)
  Y _ := iprop(emp)
  Z c := Pipeline.unscopedRest spec0 c (fun b => V0 m c (Proc.devRef .tc b))
  hentry c := by
    have h := Pipeline.RDat.arrays_of_unscopedBufs (p := (0 : Fin 2)) (pcfgs (F := F)) adm (rdats m) launch0.win launch0.arr_whole c
      (fun w => by match w with | 0 => rfl | 1 => rfl) (fun b => V0 m c (Proc.devRef .tc b)) (fun w => rfl)
    rw [pref_none, ← Pipeline.unscopedBufs_held (Ix := Unit) (Name := ℕ) (U := UR sig nD τ) (Lvl := ℕ) c (V0 m c)]
    iintro ⟨⟨Hh, HO⟩, -, -⟩
    imodintro
    ihave H := h $$ Hh
    icases H with ⟨Ha, Hr⟩
    isplitl [Ha]; · iexact Ha
    isplitl []; · iempintro
    isplitl [HO]
    · icases HO with ⟨%W, HO⟩
      unfold RDat.owesAt Pipeline.owesWithin
      iexists W; isplitr; · ipureintro; exact fun _ _ => Or.inl trivial
      iexact HO
    isplitl []; · iempintro
    iexact Hr
  hin c := by
    rw [pref_none]
    refine (show iprop(BI.emp ∗ BI.emp ∗ Pipeline.scopedRest spec0 c) ⊢ (Pipeline.scopedRest spec0 c : sProp 𝕄) from ?_)
    iintro ⟨-, -, H⟩; iexact H
  hout c := by
    rw [Pipeline.ownSems0_none]
    refine (show (Pipeline.scopedRest spec0 c : sProp 𝕄) ⊢ iprop(BI.emp ∗ BI.emp ∗ Pipeline.scopedRest spec0 c) from ?_)
    iintro H
    isplitl []; · iempintro
    isplitl []; · iempintro
    iexact H
  hexit c := by
    have h := join0 m c
    have ha : (rdats m 0 c).arraysAt cfg0.N = ((dat0 m c).arrays ((dat0 m c).arrAt · cfg0.N) : sProp 𝕄) := (dat0 m c).toR_arraysAt_eq cfg0.N
    iintro ⟨Ha, HO, -, Hr⟩
    imodintro
    isplitl [Ha Hr]
    · iapply h
      isplitl [Ha]
      · iapply (show (rdats m 0 c).arraysAt cfg0.N ⊢ ((dat0 m c).arrays ((dat0 m c).arrAt · cfg0.N) : sProp 𝕄) from Entails.of_eq ha)
        iexact Ha
      iexact Hr
    unfold RDat.owesAt Pipeline.owesWithin
    icases HO with ⟨%W, -, HO⟩; iexists W; iexact HO

set_option backward.isDefEq.respectTransparency.types false in
/-- The second call as a segment of @main. -/
def region1 : Pipeline.RDat.RegionSeg (pcfgs (F := F)) adm (rdats m) () defs₀ Variants.none (fun _ => ∅) (fun _ _ => (0 : ℕ)) 1 where
  win := launch1.win.to₀
  block_pos := launch1.block_pos
  stage_whole := launch1.stage_whole
  K := PEmpty
  osem := fun k => k.elim
  ho := .none _
  hbody c := body1 m c
  hwaits := Pipeline.RDat.hwaits_of_owed_zero (pcfgs (F := F)) adm (rdats m) () (fun _ => ∅) (fun _ _ => (0 : ℕ)) 1 fun _ _ => rfl
  pre c := iprop(StableHlo.held (c.tc : Thread nD τ) (Pipeline.ucRefs τ sig) (W2 m c) ∗ rest c)
  post c := iprop((∃ G : Left m c, StableHlo.held (c.tc : Thread nD τ) (Pipeline.ucRefs τ sig) (W3 m c G)) ∗ rest c)
  X _ := iprop(emp)
  Y _ := iprop(emp)
  Z c := Pipeline.unscopedRest spec1 c (fun b => W2 m c (Proc.devRef .tc b))
  hentry c := by
    have h := Pipeline.RDat.arrays_of_unscopedBufs (p := (1 : Fin 2)) (pcfgs (F := F)) adm (rdats m) launch1.win launch1.arr_whole c
      (fun w => by match w with | 0 => rfl | 1 => rfl | 2 => rfl | 3 => rfl | 4 => rfl | 5 => rfl) (fun b => W2 m c (Proc.devRef .tc b)) (fun w => rfl)
    rw [pref_none, ← Pipeline.unscopedBufs_held (Ix := Unit) (Name := ℕ) (U := UR sig nD τ) (Lvl := ℕ) c (W2 m c)]
    iintro ⟨⟨Hh, HO⟩, -, -⟩
    imodintro
    ihave H := h $$ Hh
    icases H with ⟨Ha, Hr⟩
    isplitl [Ha]; · iexact Ha
    isplitl []; · iempintro
    isplitl [HO]
    · icases HO with ⟨%W, HO⟩
      unfold RDat.owesAt Pipeline.owesWithin
      iexists W; isplitr; · ipureintro; exact fun _ _ => Or.inl trivial
      iexact HO
    isplitl []; · iempintro
    iexact Hr
  hin c := by
    rw [pref_none]
    refine (show iprop(BI.emp ∗ BI.emp ∗ Pipeline.scopedRest spec1 c) ⊢ (Pipeline.scopedRest spec1 c : sProp 𝕄) from ?_)
    iintro ⟨-, -, H⟩; iexact H
  hout c := by
    rw [Pipeline.ownSems0_none]
    refine (show (Pipeline.scopedRest spec1 c : sProp 𝕄) ⊢ iprop(BI.emp ∗ BI.emp ∗ Pipeline.scopedRest spec1 c) from ?_)
    iintro H
    isplitl []; · iempintro
    isplitl []; · iempintro
    iexact H
  hexit c := by
    have h := join1 m c
    have ha : (rdats m 1 c).arraysAt (Pipeline.pin (pcfgs (F := F)) adm 1).N ⊢ (iprop(∃ G : Left m c, (rd1 m c).arrays G.1) : sProp 𝕄) := by
      show (rd1 m c).arraysAt cfg1.N ⊢ _
      unfold RDat.arraysAt RDat.arrays
      refine (BI.bigSep_exists_pi Finset.univ _).trans ?_
      iintro ⟨%A, H⟩
      ihave H' := (BI.bigSep_pure_sep Finset.univ (fun w => (rd1 m c).ArrAt w cfg1.N (A w)) _) $$ H
      icases H' with ⟨%hA, H⟩
      iexists (⟨A, fun w => hA w (Finset.mem_univ w)⟩ : Left m c)
      iexact H
    iintro ⟨Ha, HO, -, Hr⟩
    imodintro
    ihave H := ha $$ Ha
    icases H with ⟨%G, Ha⟩
    isplitl [Ha Hr]
    · iexists G
      iapply (h G)
      isplitl [Ha] <;> iassumption
    unfold RDat.owesAt Pipeline.owesWithin
    icases HO with ⟨%W, -, HO⟩; iexists W; iexact HO

/-- The host's stretch between the calls. -/
def host1 : HostSeg (Ix := Unit) (Name := ℕ) (U := UR sig nD τ) (Lvl := ℕ) (pcfgs (F := F)) defs₀ Variants.none (fun _ => ∅) (fun _ _ => (0 : ℕ)) :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) rest

/-- The host's stretch after the second call, from whatever contents that left. -/
def host2 : HostSeg (Ix := Unit) (Name := ℕ) (U := UR sig nD τ) (Lvl := ℕ) (pcfgs (F := F)) defs₀ Variants.none (fun _ => ∅) (fun _ _ => (0 : ℕ)) :=
  Pipeline.HostSeg.ofOpsEx (Γ := Left m) _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) rest

/-- @main's four items. -/
abbrev items (c : Dev nD) : List (Pipeline.RDat.Seg (pcfgs (F := F)) adm (rdats m) () defs₀ Variants.none (fun _ => ∅) (fun _ _ => (0 : ℕ))) :=
  [.region (region0 m), .host (host1 m), .region (region1 m), .host (host2 m)]

set_option backward.isDefEq.respectTransparency.types false in
/-- The run of @main, the results named: at the end every unscoped buffer of every core is `W4` at contents the second call may
    leave, and every counter is zero. -/
theorem run_buffers (ρ : Dev nD → PrngReg) :
    θ_run (defs (F := F)) (onTc (τ := τ) (main (F := F))) ⟨m, fun _ => 0, ρ⟩ (fun r => (∀ c : Dev nD, ∃ G : Left m c,
      ∀ b ∈ Pipeline.ucRefs τ sig, r.2.mem ((c.tc : Thread nD τ).1, b) = W4 m c G b) ∧ r.2.sem = fun _ => 0) := by
  refine Pipeline.RDat.θ_run_regions_kit_dev_sems (pcfgs (F := F)) adm (rdats m) () cellOf_inj emb₁ defs₀ Variants.none (fun _ => ∅)
    (fun _ _ => (0 : ℕ)) m ρ main (items m)
    (fun c Q => by
      rewrite [main_chain c, Pipeline.RDat.Seg.run_eq_chain,
        show (items m c).map Pipeline.RDat.Seg.prog = [
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [items, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c.tc : Thread nD τ) (Pipeline.ucRefs τ sig) (V0 m c) ∗ rest c))
    (Tₙ := fun c => iprop(∃ G : Left m c, StableHlo.held (c.tc : Thread nD τ) (Pipeline.ucRefs τ sig) (W4 m c G)))
    (hch := fun c => ⟨.rfl, .rfl, .rfl, .rfl, .rfl⟩)
    (hinit := ?_)
    (QY := fun c s => ∃ G : Left m c, ∀ b ∈ Pipeline.ucRefs τ sig, s.mem ((c.tc : Thread nD τ).1, b) = W4 m c G b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach (fun _ => ∅) (fun _ _ => (0 : ℕ)) fun c => ?_
    rw [show unscopedBufs c (fun b => m ((c.tc : Thread nD τ).loc b)) = StableHlo.held (c.tc : Thread nD τ) (Pipeline.ucRefs τ sig) (V0 m c)
        from Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    iexists ∅; iexact HO
  · unfold StableHlo.held
    iintro ⟨⟨%G, Hh⟩, HSI⟩
    ihave Hr := (pointsTo_read_all (Pipeline.ucRefs τ sig) (fun b => ((c.tc : Thread nD τ).1, b)) (W4 m c G) s') $$ [Hh HSI]
    · isplitl [Hh] <;> iassumption
    icases Hr with ⟨%h, HSI⟩
    imodintro
    isplitr
    · ipureintro; exact ⟨G, h⟩
    · iexact HSI

end Cert.Proof.Run

end
-- ==== Proof.Frames.lean ====
/- The frame claims: each program runs, its arguments end unchanged, every counter ends at zero. -/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run
public import Idealize.ShloMosaic.Lib.Claim

@[expose] public section

set_option maxRecDepth 16384

noncomputable section

namespace Cert.Proof

open Idealize.ShloMosaic Idealize.ShloMosaic.TcCoe Idealize.SL Idealize.SL.Sem

section
open Cert.KernelIdeal Cert.KernelIdeal.Gen Cert.Proof.Run
variable {F : FTy → Type} [FloatOps F]

/-- A TensorCore buffer the compiler does not scope is among the buffers the run speaks of. -/
theorem mem_uc (r : Ref sig .tc) (h : (Proc.devRef (τ := τ) .tc r).isScoped = false) : Proc.devRef .tc r ∈ Pipeline.ucRefs τ sig :=
  Finset.mem_filter.mpr ⟨StableHlo.devRef_mem_tcRefs r, by simpa using h⟩

/-- The run of the kernel, over any float values: the two bound vectors and the matrix at the last valuation, the arguments
    unchanged, every counter zero. -/
theorem run_main (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      (∃ G : Left m c, r.2.mem ((c.tc : Thread nD τ).loc main_v22) = W4 m c G main_v22
        ∧ r.2.mem ((c.tc : Thread nD τ).loc main_v25) = W4 m c G main_v25
        ∧ r.2.mem ((c.tc : Thread nD τ).loc main_v6) = W4 m c G main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  refine (θ_run (defs (F := F)) _ _).mono (fun r h => ⟨fun c => ?_, h.2⟩) (run_buffers m ρ)
  obtain ⟨G, hG⟩ := h.1 c
  have hk : ∀ b : Ref sig .tc, (Proc.devRef (τ := τ) .tc b).isScoped = false → b ∉ hostOps2_W → b ≠ main_v19_0 → b ≠ main_v19_1 →
      b ∉ hostOps1_W → b ≠ main_v0 → r.2.mem ((c.tc : Thread nD τ).loc b) = m ((c.tc : Thread nD τ).loc b) :=
    fun b h1 h2 h3 h4 h5 h6 => (hG _ (mem_uc b h1)).trans (W4_kept m c G b h2 h3 h4 h5 h6)
  refine ⟨⟨G, hG _ (mem_uc main_v22 rfl), hG _ (mem_uc main_v25 rfl), hG _ (mem_uc main_v6 rfl)⟩, ?_, ?_, ?_, ?_, ?_, ?_, ?_, ?_, ?_⟩
  · exact hk main_arg0 rfl (by decide) (by decide) (by decide) (by decide) (by decide)
  · exact hk main_arg1 rfl (by decide) (by decide) (by decide) (by decide) (by decide)
  · exact hk main_arg2 rfl (by decide) (by decide) (by decide) (by decide) (by decide)
  · exact hk main_arg3 rfl (by decide) (by decide) (by decide) (by decide) (by decide)
  · exact hk main_arg4 rfl (by decide) (by decide) (by decide) (by decide) (by decide)
  · exact hk main_arg5 rfl (by decide) (by decide) (by decide) (by decide) (by decide)
  · exact hk main_arg6 rfl (by decide) (by decide) (by decide) (by decide) (by decide)
  · exact hk main_arg7 rfl (by decide) (by decide) (by decide) (by decide) (by decide)
  · exact hk main_arg8 rfl (by decide) (by decide) (by decide) (by decide) (by decide)

/-- The same with the values dropped: the arguments unchanged and every counter zero. -/
theorem run_frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run (defs (F := F)) _ _).mono (fun _ h => ⟨fun c => (h.1 c).2, h.2⟩) (run_main m ρ)

/-- The two printed texts give each label the same body. -/
theorem defs₀_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (_, _) => rfl
  | 1, (_, _) => rfl

/-- So the two programs have the same definitions. -/
theorem defs_eq : Cert.Kernel.defs (F := F) = Cert.KernelIdeal.defs (F := F) :=
  congrArg (Pipeline.defs Cert.KernelIdeal.pcfgs) defs₀_eq

end

/-- The kernel as printed runs and keeps its arguments. -/
theorem frame_kernel : Cert.quiescent_Kernel := fun m ρ _ => by
  have h := run_frame (F := Bits) m ρ
  rw [← defs_eq] at h
  exact h

/-- The kernel at extended reals runs and keeps its arguments. -/
theorem frame_kernelIdeal : Cert.quiescent_KernelIdeal := fun m ρ _ => run_frame (F := Ideal) m ρ

/-- The reference runs and keeps its arguments; it declares no counter. -/
theorem frame_reference : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

/-- The kernel's frame again, on finite inputs. -/
theorem frame_kernelIdeal_finite [Cert.Pre_finite.Facts] : Cert.quiescent_KernelIdeal_pre_finite := fun m ρ _ =>
  frame_kernelIdeal m ρ trivial

/-- The reference's frame again, on finite inputs. -/
theorem frame_reference_finite [Cert.Pre_finite.Facts] : Cert.quiescent_ReferenceIdeal_pre_finite := fun m ρ _ =>
  frame_reference m ρ trivial

end Cert.Proof

end
-- ==== Proof.Spec.lean ====
/- The matrix of the convolution in plain numbers: the entry that joins an input element to an output element. -/
module

public import Idealize.ShloMosaic.Lib.Pointwise

@[expose] public section

noncomputable section

namespace Cert.Proof

open Idealize.ShloMosaic

/-- The convolution's entry between input element `r` (channel `r / 1024`, row `r % 1024 / 32`, column `r % 32`) and output
    element `c` (channel `c / 256`, row `c % 256 / 16`, column `c % 16`): stride 2, padding 1, a kernel of 4 by 4. The weight of
    the kernel place where the input element lies under the output element, zero where it lies under none. -/
def convEntry (W : FVec Ideal ⟨4, ![16, 3, 4, 4]⟩ .f32) (r c : ℕ) : EReal :=
  if h : r < 3072 ∧ c < 4096 ∧ (2 * (c % 256 / 16) ≤ r % 1024 / 32 + 1 ∧ r % 1024 / 32 + 1 - 2 * (c % 256 / 16) < 4) ∧
      2 * (c % 16) ≤ r % 32 + 1 ∧ r % 32 + 1 - 2 * (c % 16) < 4 then
    W (ix4 ⟨c / 256, by omega⟩ ⟨r / 1024, by omega⟩ ⟨r % 1024 / 32 + 1 - 2 * (c % 256 / 16), h.2.2.1.2⟩
      ⟨r % 32 + 1 - 2 * (c % 16), h.2.2.2.2⟩)
  else 0

/-- The affine matrix: the convolution above, the biases in the last row, a one in the corner. -/
def affine (W : FVec Ideal ⟨4, ![16, 3, 4, 4]⟩ .f32) (B : FVec Ideal ⟨1, ![16]⟩ .f32) (r : Fin 3073) (c : Fin 4097) : EReal :=
  if r.val < 3072 then convEntry W r.val c.val
  else if h : c.val < 4096 then B (ix1 ⟨c.val / 256, by omega⟩) else 1

/-- The sum over the 16 kernel places of the weight where input and output element meet is the convolution's entry. -/
theorem sum_taps (W : FVec Ideal ⟨4, ![16, 3, 4, 4]⟩ .f32) (r : Fin 3072) (c : Fin 4096) :
    (∑ kh : Fin 4, ∑ kw : Fin 4,
      if 2 * (c.val % 256 / 16) + kh.val = r.val % 1024 / 32 + 1 ∧ 2 * (c.val % 16) + kw.val = r.val % 32 + 1 then
        W (ix4 ⟨c.val / 256, by omega⟩ ⟨r.val / 1024, by omega⟩ kh kw) else 0) = convEntry W r.val c.val := by
  unfold convEntry
  by_cases h : r.val < 3072 ∧ c.val < 4096 ∧ (2 * (c.val % 256 / 16) ≤ r.val % 1024 / 32 + 1 ∧ r.val % 1024 / 32 + 1 - 2 * (c.val % 256 / 16) < 4) ∧
      2 * (c.val % 16) ≤ r.val % 32 + 1 ∧ r.val % 32 + 1 - 2 * (c.val % 16) < 4
  · rw [dif_pos h, Finset.sum_eq_single ⟨r.val % 1024 / 32 + 1 - 2 * (c.val % 256 / 16), h.2.2.1.2⟩,
      Finset.sum_eq_single ⟨r.val % 32 + 1 - 2 * (c.val % 16), h.2.2.2.2⟩]
    · exact if_pos ⟨by have := h.2.2.1.1; dsimp only; omega, by have := h.2.2.2.1; dsimp only; omega⟩
    · intro b _ hb
      exact if_neg fun hc => hb (Fin.ext (by have := hc.2; dsimp only; omega))
    · intro hb; exact absurd (Finset.mem_univ _) hb
    · intro a _ ha
      refine Finset.sum_eq_zero fun b _ => if_neg fun hc => ha (Fin.ext (by have := hc.1; dsimp only; omega))
    · intro hb; exact absurd (Finset.mem_univ _) hb
  · rw [dif_neg h]
    refine Finset.sum_eq_zero fun a _ => Finset.sum_eq_zero fun b _ => if_neg fun hc => h ?_
    have := a.isLt; have := b.isLt; have := r.isLt; have := c.isLt
    omega

end Cert.Proof

end
-- ==== Proof.Block0.lean ====
/- The nonzero block of the map's matrix at an index: the convolution's entry, read off the sixteen-by-four weights. -/
module

public import proofs.«01_k».proof.Proof.Body0
public import proofs.«01_k».proof.Proof.Spec

@[expose] public section

set_option maxRecDepth 16384

noncomputable section

namespace Cert.Proof.Run

open Cert.KernelIdeal Cert.KernelIdeal.Gen
open Idealize.ShloMosaic Idealize.ShloMosaic.TcCoe

/-- One weight as the body reads it. -/
theorem wAt_apply (w : FVec Ideal S4x1x4x4 .f32) (u kh kw : Fin 4) : wAt (F := Ideal) w u kh kw = w (ix4 u 0 kh kw) := by
  unfold wAt
  pointwise

/-- The body's test of a kernel column, in numbers. -/
theorem col_bit (iw : Fin 32) (ow : Fin 16) (k : ℕ) (hk : k < 4) :
    (IntOp.cmpi CmpIPredicate.eq
      (IntOp.addi (IntOp.subi (BitVec.ofNat 32 iw.val) (IntOp.muli 2#32 (BitVec.ofNat 32 ow.val))) 1#32) (BitVec.ofNat 32 k) = 1#1)
      ↔ (2 * ow.val ≤ iw.val + 1 ∧ iw.val + 1 - 2 * ow.val = k) := by
  have h : (BitVec.ofNat 32 iw.val - 2#32 * BitVec.ofNat 32 ow.val + 1#32 = BitVec.ofNat 32 k) ↔
      (2 * ow.val ≤ iw.val + 1 ∧ iw.val + 1 - 2 * ow.val = k) := by
    rw [← BitVec.toNat_inj]
    simp only [BitVec.toNat_add, BitVec.toNat_sub, BitVec.toNat_mul, BitVec.toNat_ofNat]
    omega
  rw [← h]
  simp only [IntOp.cmpi, IntOp.addi, IntOp.subi, IntOp.muli]
  by_cases e : BitVec.ofNat 32 iw.val - 2#32 * BitVec.ofNat 32 ow.val + 1#32 = BitVec.ofNat 32 k
  · simp [e]
  · rw [beq_eq_false_iff_ne.2 e]
    simp [e]

/-- A select on a bit that tells whether `P` holds. -/
theorem select_if {P : Prop} [Decidable P] {c : BitVec 1} (h : c = 1#1 ↔ P) {α : Type} (a b : α) :
    Scalar.select c a b = if P then a else b := by
  unfold Scalar.select
  by_cases hp : P
  · rw [if_pos hp, h.2 hp]; rfl
  · rw [if_neg hp]
    have : c ≠ 1#1 := fun e => hp (h.1 e)
    simp [this]

/-- A tile at an index: the weight of kernel column `iw + 1 - 2 ow` where that is one, zero elsewhere. -/
theorem tile_apply (w : FVec Ideal S4x1x4x4 .f32) (u kh : Fin 4) (iw : Fin 32) (ow : Fin 16) :
    (tile w u kh : FVec Ideal S32x16 .f32) (ix2 iw ow) =
      if h : 2 * ow.val ≤ iw.val + 1 ∧ iw.val + 1 - 2 * ow.val < 4 then
        w (ix4 u 0 kh ⟨iw.val + 1 - 2 * ow.val, h.2⟩) else (0 : EReal) := by
  pointwise [tile, k0_pay2]
  rw [select_if (col_bit iw ow 3 (by omega)), select_if (col_bit iw ow 2 (by omega)), select_if (col_bit iw ow 1 (by omega)),
    select_if (col_bit iw ow 0 (by omega)), wAt_apply, wAt_apply, wAt_apply, wAt_apply]
  by_cases h : 2 * ow.val ≤ iw.val + 1 ∧ iw.val + 1 - 2 * ow.val < 4
  · rw [dif_pos h]
    rcases (by omega : iw.val + 1 - 2 * ow.val = 3 ∨ iw.val + 1 - 2 * ow.val = 2 ∨ iw.val + 1 - 2 * ow.val = 1 ∨ iw.val + 1 - 2 * ow.val = 0)
      with e | e | e | e
    · rw [if_pos ⟨h.1, e⟩]
      exact congrArg (fun k => w (ix4 u 0 kh k)) (Fin.ext e.symm)
    · rw [if_neg (fun c => by omega), if_pos ⟨h.1, e⟩]
      exact congrArg (fun k => w (ix4 u 0 kh k)) (Fin.ext e.symm)
    · rw [if_neg (fun c => by omega), if_neg (fun c => by omega), if_pos ⟨h.1, e⟩]
      exact congrArg (fun k => w (ix4 u 0 kh k)) (Fin.ext e.symm)
    · rw [if_neg (fun c => by omega), if_neg (fun c => by omega), if_neg (fun c => by omega), if_pos ⟨h.1, e⟩]
      exact congrArg (fun k => w (ix4 u 0 kh k)) (Fin.ext e.symm)
  · rw [dif_neg h, if_neg (fun c => by omega), if_neg (fun c => by omega), if_neg (fun c => by omega), if_neg (fun c => by omega)]

/-- The whole block at row `r` and column `c`: with the first output channel of the block `o`, the entry between input
    element `r` of one channel and output element `c` of the block's four. -/
theorem bands_apply (w : FVec Ideal S4x1x4x4 .f32) (r c : Fin 1024) :
    bands (F := Ideal) (tile w) (ix2 r c) =
      if h : (2 * (c.val % 256 / 16) ≤ r.val / 32 + 1 ∧ r.val / 32 + 1 - 2 * (c.val % 256 / 16) < 4) ∧
          2 * (c.val % 16) ≤ r.val % 32 + 1 ∧ r.val % 32 + 1 - 2 * (c.val % 16) < 4 then
        w (ix4 ⟨c.val / 256, by omega⟩ 0 ⟨r.val / 32 + 1 - 2 * (c.val % 256 / 16), h.1.2⟩ ⟨r.val % 32 + 1 - 2 * (c.val % 16), h.2.2⟩)
      else (0 : EReal) := by
  have hb : bands (F := Ideal) (tile w) (ix2 r c) =
      band (F := Ideal) (tile w) ⟨r.val / 32, by omega⟩ (ix2 ⟨r.val % 32, by omega⟩ c) := by
    unfold bands
    refine concatenate_ofFn_apply (t := S1024x1024) 0 (fun ih : Fin 32 => band (F := Ideal) (tile w) ih) _ rfl 32 rfl (ix2 r c) ⟨r.val / 32, by omega⟩ rfl
      (ix2 ⟨r.val % 32, by omega⟩ c) rfl ?_
    intro b hb
    fin_cases b
    · exact absurd rfl hb
    · rfl
  rw [hb]
  have hp : band (F := Ideal) (tile w) ⟨r.val / 32, by omega⟩ (ix2 ⟨r.val % 32, by omega⟩ c) =
      piece (F := Ideal) (tile w) ⟨r.val / 32, by omega⟩ ⟨c.val / 16, by omega⟩ (ix2 ⟨r.val % 32, by omega⟩ ⟨c.val % 16, by omega⟩) := by
    unfold band
    refine concatenate_ofFn_apply (t := S32x1024) 1 (fun p : Fin 64 => piece (F := Ideal) (tile w) ⟨r.val / 32, by omega⟩ p) _ rfl 16 rfl (ix2 ⟨r.val % 32, by omega⟩ c)
      ⟨c.val / 16, by omega⟩ rfl (ix2 ⟨r.val % 32, by omega⟩ ⟨c.val % 16, by omega⟩) rfl ?_
    intro b hb
    fin_cases b
    · rfl
    · exact absurd rfl hb
  rw [hp]
  unfold piece
  dsimp only
  have ec : c.val / 16 % 16 = c.val % 256 / 16 := by omega
  by_cases h1 : 2 * (c.val / 16 % 16) ≤ r.val / 32 + 1 ∧ r.val / 32 + 1 - 2 * (c.val / 16 % 16) < 4
  · rw [dif_pos h1, tile_apply]
    dsimp only
    by_cases h2 : 2 * (c.val % 16) ≤ r.val % 32 + 1 ∧ r.val % 32 + 1 - 2 * (c.val % 16) < 4
    · rw [dif_pos h2, dif_pos ⟨by rw [← ec]; exact h1, h2⟩]
      exact congrArg₂ (fun a b => w (ix4 a 0 b _)) (Fin.ext (by dsimp only; omega)) (Fin.ext (by dsimp only; omega))
    · rw [dif_neg h2, dif_neg fun h => h2 h.2]
  · rw [dif_neg h1, dif_neg fun h => h1 (by rw [ec]; exact h.1)]
    pointwise

end Cert.Proof.Run

end
-- ==== Proof.ArrayA.lean ====
/- What the first call leaves in the matrix's array: the convolution's entries, zero in the last row and the last column. -/
module

public import proofs.«01_k».proof.Proof.Block0
public import proofs.«01_k».proof.Proof.RegionData
public import Idealize.ShloMosaic.Lib.Pipeline.ValueKit

@[expose] public section

set_option maxRecDepth 16384

noncomputable section

namespace Cert.Proof.Run

open Cert.KernelIdeal Cert.KernelIdeal.Gen
open Idealize.ShloMosaic Idealize.ShloMosaic.TcCoe
open Idealize.SL Idealize.SL.Sem
open Idealize.ShloMosaic.Pipeline (Dat RDat Cfg Window BodyObligation cellOf)

variable (m : (ℓ : Loc nD τ sig) → Buf (Elt Ideal) ℓ)

/-- Two indices of four axes are one where their coordinates are. -/
theorem ix4_ext {n0 n1 n2 n3 : ℕ} {a a' : Fin n0} {b b' : Fin n1} {d d' : Fin n2} {e e' : Fin n3} (ha : a.val = a'.val) (hb : b.val = b'.val)
    (hd : d.val = d'.val) (he : e.val = e'.val) : ix4 a b d e = ix4 a' b' d' e' := by
  rw [Fin.ext ha, Fin.ext hb, Fin.ext hd, Fin.ext he]

/-- The block of weights each grid point reads. -/
theorem idx0_0 : ∀ t : Fin cfg0.N, win0_0.index t = ![min (grid0.coords t 1).val 3, min (grid0.coords t 0).val 2, 0, 0] :=
  (by decide +kernel : ∀ t : Fin grid0.N, _)

/-- The block of the matrix each grid point writes. -/
theorem idx0_1 : ∀ t : Fin cfg0.N, win0_1.index t = ![(grid0.coords t 0).val, (grid0.coords t 1).val] :=
  (by decide +kernel : ∀ t : Fin grid0.N, _)

/-- The body's test, in numbers. -/
theorem conv_bit : ∀ t : Fin cfg0.N, inConv (grid0.coords t) = 1#1 ↔ ((grid0.coords t 0).val < 3 ∧ (grid0.coords t 1).val < 4) :=
  (by decide +kernel : ∀ t : Fin grid0.N, _)

/-- The weights the body reads: the four output channels and the input channel of its grid point. -/
theorem wBlk_apply (c : Dev nD) (t : Fin cfg0.N) (a : Fin 4) (b : Fin 1) (d e : Fin 4) :
    wBlk m c t (ix4 a b d e) = (V0 m c main_arg4 : FVec Ideal S16x3x4x4 .f32) (ix4
      ⟨min (grid0.coords t 1).val 3 * 4 + a.val, by omega⟩ ⟨min (grid0.coords t 0).val 2, by omega⟩ d e) := by
  unfold wBlk Window.fill
  rw [dif_pos (((cfg0.win 0).moved_iff _ _).mpr fun x => (ix4 a b d e x).isLt)]
  blk_simp
  refine congrArg _ ?_
  blk_ext [idx0_0]

/-- The block left at a grid point, at an index: the convolution's entry at the block's place in the matrix. -/
theorem aBlock_apply (c : Dev nD) (t : Fin cfg0.N) (r' c' : Fin 1024) :
    (aBlock (grid0.coords t) (wBlk m c t) : FVec Ideal S1024x1024 .f32) (ix2 r' c') =
      convEntry (V0 m c main_arg4) ((grid0.coords t 0).val * 1024 + r'.val) ((grid0.coords t 1).val * 1024 + c'.val) := by
  unfold aBlock
  by_cases h : inConv (grid0.coords t) = 1#1
  · rw [if_pos h, bands_apply]
    have hc := (conv_bit t).1 h
    unfold convEntry
    have e1 : ((grid0.coords t 0).val * 1024 + r'.val) % 1024 / 32 = r'.val / 32 := by omega
    have e2 : ((grid0.coords t 0).val * 1024 + r'.val) % 32 = r'.val % 32 := by omega
    have e3 : ((grid0.coords t 1).val * 1024 + c'.val) % 256 / 16 = c'.val % 256 / 16 := by omega
    have e4 : ((grid0.coords t 1).val * 1024 + c'.val) % 16 = c'.val % 16 := by omega
    by_cases h2 : (2 * (c'.val % 256 / 16) ≤ r'.val / 32 + 1 ∧ r'.val / 32 + 1 - 2 * (c'.val % 256 / 16) < 4) ∧
          2 * (c'.val % 16) ≤ r'.val % 32 + 1 ∧ r'.val % 32 + 1 - 2 * (c'.val % 16) < 4
    · rw [dif_pos h2, wBlk_apply, dif_pos ⟨by omega, by omega, by rw [e1, e3]; exact h2.1, by rw [e2, e4]; exact h2.2⟩]
      exact congrArg _ (ix4_ext (by dsimp only; omega) (by dsimp only; omega) (by dsimp only; rw [e1, e3]) (by dsimp only; rw [e2, e4]))
    · rw [dif_neg h2, dif_neg fun e => h2 ⟨by rw [← e1, ← e3]; exact e.2.2.1, by rw [← e2, ← e4]; exact e.2.2.2⟩]
  · rw [if_neg h]
    have hc : ¬ ((grid0.coords t 0).val < 3 ∧ (grid0.coords t 1).val < 4) := fun e => h ((conv_bit t).2 e)
    unfold convEntry
    rw [dif_neg fun e => hc (by omega)]
    pointwise [k0_pay1]

/-- The matrix's array after the first call. -/
theorem res0_eq (c : Dev nD) : res0 m c = fun i => convEntry (V0 m c main_arg4) (i 0).val (i 1).val := by
  refine (dat0 m c).arrAt_eq_of_covers 1 _ (by decide +kernel) fun t hf y => ?_
  blk_simp [idx0_1]
  have key : ∀ p : S1024x1024.Idx, (aBlock (grid0.coords t) (wBlk m c t) : FVec Ideal S1024x1024 .f32) p =
      convEntry (V0 m c main_arg4) ((grid0.coords t 0).val * 1024 + (p 0).val) ((grid0.coords t 1).val * 1024 + (p 1).val) := fun p => by
    rw [eq_ix2 p]; exact aBlock_apply m c t _ _
  exact key ((cfg0.win 1).xinj (cfg0.grid.coords t) y)

end Cert.Proof.Run

end
-- ==== Proof.HostLines.lean ====
/- What the host's two stretches compute, over any contents they start from. -/
module

public import proofs.«01_k».proof.Proof.Gen.KernelIdeal.Launch
public import Idealize.ShloMosaic.Lib.Claim

@[expose] public section

set_option maxRecDepth 16384

noncomputable section

namespace Cert.Proof.Run

open Cert.KernelIdeal Cert.KernelIdeal.Gen
open Idealize.ShloMosaic Idealize.ShloMosaic.TcCoe Idealize.ShloMosaic.StableHlo
open Idealize.SL Idealize.SL.Sem

variable {F : FTy → Type} [FloatOps F]

/-- The last row of the matrix: the biases, each over its channel's 256 elements, and a one. -/
abbrev biasRow (b : FVec F S16 .f32) : FVec F S4097 .f32 :=
  concatenate S4097 0 [⟨S4096, shapeCast S4096 (broadcastInDim S16x256 ![0] bcast_S16_S16x256_0 b) shapeCasts_S16x256_S4096⟩,
    ⟨S1, broadcastInDim S1 ![] bcast_S_S1 (constant S_ .f32 0x3F800000#32)⟩] concatenates_S4096_S1_S4097_d0

/-- The matrix after the host's first stretch: the first call's array with its last row overwritten. -/
theorem host1_v6 (X : Valuation τ sig (Elt F)) : after hostOps1 X main_v6 =
    Host.scatter scatter_S3073x4097_S1_S4097_0_0_0_0 (fun _ b => b) (X main_v0)
      (broadcastInDim S1 ![] bcast_S_S1 (constantI S_ 32 3072#32)) (biasRow (X main_arg5)) := by
  after_results
  rfl

/-- Half the sum of the two boxes. -/
abbrev mid (l u : FVec F S1024 .f32) : FVec F S1024 .f32 :=
  mulf (addf l u) (broadcastInDim S1024 ![] bcast_S_S1024 (constant S_ .f32 0x3F000000#32))
/-- Half their difference. -/
abbrev rad (l u : FVec F S1024 .f32) : FVec F S1024 .f32 :=
  mulf (subf u l) (broadcastInDim S1024 ![] bcast_S_S1024 (constant S_ .f32 0x3F000000#32))

/-- The row of midpoints, a one behind it. -/
theorem host1_v15 (X : Valuation τ sig (Elt F)) : after hostOps1 X main_v15 =
    broadcastInDim S1x1025 ![1] bcast_S1025_S1x1025_1 (concatenate S1025 0 [⟨S1024, mid (X main_arg7) (X main_arg8)⟩,
      ⟨S1, broadcastInDim S1 ![] bcast_S_S1 (constant S_ .f32 0x3F800000#32)⟩] concatenates_S1024_S1_S1025_d0) := by
  after_results

/-- The row of radii, a zero behind it. -/
theorem host1_v18 (X : Valuation τ sig (Elt F)) : after hostOps1 X main_v18 =
    broadcastInDim S1x1025 ![1] bcast_S1025_S1x1025_1 (concatenate S1025 0 [⟨S1024, rad (X main_arg7) (X main_arg8)⟩,
      ⟨S1, broadcastInDim S1 ![] bcast_S_S1 (constant S_ .f32 0x00000000#32)⟩] concatenates_S1024_S1_S1025_d0) := by
  after_results

/-- The lower bounds, cut to 4096 and reshaped. -/
theorem host2_v22 (X : Valuation τ sig (Elt F)) : after hostOps2 X main_v22 =
    shapeCast S16x16x16 (shapeCast S4096 (extractStridedSlice S1x4096 ![0, 0] (X main_v19_0 : FVec F S1x4608 .f32) slices_S1x4608_S1x4096_0_0)
      shapeCasts_S1x4096_S4096) shapeCasts_S4096_S16x16x16 := by
  after_results
  rfl

/-- The upper bounds, cut to 4096 and reshaped. -/
theorem host2_v25 (X : Valuation τ sig (Elt F)) : after hostOps2 X main_v25 =
    shapeCast S16x16x16 (shapeCast S4096 (extractStridedSlice S1x4096 ![0, 0] (X main_v19_1 : FVec F S1x4608 .f32) slices_S1x4608_S1x4096_0_0)
      shapeCasts_S1x4096_S4096) shapeCasts_S4096_S16x16x16 := by
  after_results
  rfl

end Cert.Proof.Run

end
-- ==== Proof.Scatter.lean ====
/- A scatter that overwrites: where the updates land at distinct places, the result holds each update at its place and the operand
   everywhere else. -/
module

public import Idealize.ShloMosaic.Lib.Pointwise

@[expose] public section

namespace Cert.Proof

open Idealize.ShloMosaic

variable {s si u : Shape} {α : Type} {w : Nat}

/-- The fold over any list of updates, at an index that none of them hits. -/
theorem scatter_fold_miss (d : ScatterDims s si u) (idx : IVec si w) (upd : u.Idx → α) (e : u.Idx → s.Idx)
    (he : ∀ j, d.resultIdx? j idx = some (e j)) (i : s.Idx) (hi : ∀ j, e j ≠ i) (l : List (Fin u.numel)) (x : s.Idx → α) :
    (l.foldl (fun r n => match d.resultIdx? (u.rowMajor.symm n) idx with
      | some i => fun i' => if i' = i then upd (u.rowMajor.symm n) else r i'
      | none => r) x) i = x i := by
  induction l generalizing x with
  | nil => rfl
  | cons n l ih =>
    rw [List.foldl_cons, ih, he]
    exact if_neg fun h => hi _ h.symm

/-- The fold over any list of updates, at the place of one of them. -/
theorem scatter_fold_hit (d : ScatterDims s si u) (idx : IVec si w) (upd : u.Idx → α) (e : u.Idx → s.Idx)
    (he : ∀ j, d.resultIdx? j idx = some (e j)) (hinj : Function.Injective e) (j : u.Idx) (l : List (Fin u.numel)) (x : s.Idx → α)
    (hj : u.rowMajor j ∈ l ∨ x (e j) = upd j) :
    (l.foldl (fun r n => match d.resultIdx? (u.rowMajor.symm n) idx with
      | some i => fun i' => if i' = i then upd (u.rowMajor.symm n) else r i'
      | none => r) x) (e j) = upd j := by
  induction l generalizing x with
  | nil => exact hj.resolve_left (by simp)
  | cons n l ih =>
    rw [List.foldl_cons]
    refine ih _ ?_
    rw [he]
    by_cases hn : u.rowMajor.symm n = j
    · right; simp [hn]
    · rcases hj with hj | hj
      · rcases List.mem_cons.1 hj with h | h
        · exact absurd (by rw [← h, Equiv.symm_apply_apply]) hn
        · exact .inl h
      · right
        exact (if_neg fun h => hn (hinj h).symm).trans hj

/-- An overwriting scatter leaves the operand where no update lands. -/
theorem scatter_miss (d : ScatterDims s si u) (x : s.Idx → α) (idx : IVec si w) (upd : u.Idx → α) (e : u.Idx → s.Idx)
    (he : ∀ j, d.resultIdx? j idx = some (e j)) (i : s.Idx) (hi : ∀ j, e j ≠ i) :
    Host.scatter d (fun _ b => b) x idx upd i = x i :=
  scatter_fold_miss d idx upd e he i hi _ x

/-- An overwriting scatter holds an update where it lands. -/
theorem scatter_hit (d : ScatterDims s si u) (x : s.Idx → α) (idx : IVec si w) (upd : u.Idx → α) (e : u.Idx → s.Idx)
    (he : ∀ j, d.resultIdx? j idx = some (e j)) (hinj : Function.Injective e) (j : u.Idx) :
    Host.scatter d (fun _ b => b) x idx upd (e j) = upd j :=
  scatter_fold_hit d idx upd e he hinj j _ x (.inl (List.mem_finRange _))

/-- Where the window of an update lands, from its start and its window coordinates. -/
theorem resultIdx?_eq (d : ScatterDims s si u) (j : u.Idx) (idx : IVec si w) (i : s.Idx)
    (h : ∀ a, d.start j idx a + d.window j a = ((i a).val : Int)) : d.resultIdx? j idx = some i := by
  unfold ScatterDims.resultIdx?
  rw [dif_pos fun a => by rw [h a]; exact ⟨Int.natCast_nonneg _, by exact_mod_cast (i a).isLt⟩]
  refine congrArg some (funext fun a => Fin.ext ?_)
  show (d.start j idx a + d.window j a).toNat = (i a).val
  rw [h a]; rfl

end Cert.Proof

end
-- ==== Proof.MatrixA.lean ====
/- The kernel's affine matrix: the first call's array, its last row overwritten by the host. -/
module

public import proofs.«01_k».proof.Proof.ArrayA
public import proofs.«01_k».proof.Proof.HostLines
public import proofs.«01_k».proof.Proof.Scatter
public import proofs.«01_k».proof.Proof.Run

@[expose] public section

set_option maxRecDepth 16384

noncomputable section

namespace Cert.Proof.Run

open Cert.KernelIdeal Cert.KernelIdeal.Gen
open Idealize.ShloMosaic Idealize.ShloMosaic.TcCoe Idealize.ShloMosaic.StableHlo
open Idealize.SL Idealize.SL.Sem

/-- The one start word of the row's scatter. -/
abbrev rowStart : IVec S1 32 := broadcastInDim S1 ![] bcast_S_S1 (constantI S_ 32 3072#32)

/-- The scatter of the row lands it in the last row. -/
theorem lands_row (j : S4097.Idx) : scatter_S3073x4097_S1_S4097_0_0_0_0.resultIdx? j rowStart =
    some (ix2 ⟨3072, by decide⟩ ⟨(j 0).val, (j 0).isLt⟩) := by
  refine resultIdx?_eq _ _ _ _ fun a => ?_
  fin_cases a
  · have h : scatter_S3073x4097_S1_S4097_0_0_0_0.start j rowStart 0 = 3072 := by
      unfold ScatterDims.start
      rw [dif_pos (by decide)]; rfl
    have h' : scatter_S3073x4097_S1_S4097_0_0_0_0.window j 0 = 0 := rfl
    show scatter_S3073x4097_S1_S4097_0_0_0_0.start j rowStart 0 + scatter_S3073x4097_S1_S4097_0_0_0_0.window j 0 = (3072 : Int)
    rw [h, h']; rfl
  · have h : scatter_S3073x4097_S1_S4097_0_0_0_0.start j rowStart 1 = 0 := by
      unfold ScatterDims.start
      rw [dif_neg (by decide)]
    have h' : scatter_S3073x4097_S1_S4097_0_0_0_0.window j 1 = (j 0).val := rfl
    show scatter_S3073x4097_S1_S4097_0_0_0_0.start j rowStart 1 + scatter_S3073x4097_S1_S4097_0_0_0_0.window j 1 = ((j 0).val : Int)
    rw [h, h', zero_add]

/-- The row at an index. -/
theorem biasRow_apply (b : FVec Ideal S16 .f32) (c : Fin 4097) :
    biasRow (F := Ideal) b (ix1 c) = if h : c.val < 4096 then b (ix1 ⟨c.val / 256, by omega⟩) else (1 : EReal) := by
  pointwise [biasRow]

variable (m : (ℓ : Loc nD τ sig) → Buf (Elt Ideal) ℓ)

/-- The matrix when the second call starts, at an index. -/
theorem matrix_apply (c : Dev nD) (r : Fin 3073) (k : Fin 4097) : (W2 m c main_v6 : FVec Ideal S3073x4097 .f32) (ix2 r k) =
    affine (m ((c : Thread nD τ).loc main_arg4)) (m ((c : Thread nD τ).loc main_arg5)) r k := by
  have e0 : W1 m c main_v0 = res0 m c := Function.update_self _ _ _
  have e5 : W1 m c main_arg5 = m ((c : Thread nD τ).loc main_arg5) := W1_of m c main_arg5 (by decide)
  unfold W2
  rw [host1_v6, e0, e5, res0_eq]
  unfold affine
  by_cases hr : r.val < 3072
  · rw [if_pos hr, scatter_miss _ _ _ _ _ lands_row _ fun j h => by
      have := congrArg (fun i : S3073x4097.Idx => (i 0).val) h
      change 3072 = r.val at this; omega]
    rfl
  · obtain rfl : r = ⟨3072, by decide⟩ := Fin.ext (by have := r.isLt; dsimp only; omega)
    rw [if_neg hr]
    refine Eq.trans (scatter_hit scatter_S3073x4097_S1_S4097_0_0_0_0 _ _ _ _ lands_row (fun a b h => by
      have h1 := congrArg (fun i : S3073x4097.Idx => (i 1).val) h
      rw [eq_ix1 a, eq_ix1 b]
      exact congrArg ix1 (Fin.ext h1)) (ix1 k)) (biasRow_apply _ k)

/-- The matrix at the end is the matrix when the second call starts. -/
theorem W4_v6 (c : Dev nD) (G : Left m c) : W4 m c G main_v6 = W2 m c main_v6 :=
  (W4_of m c G main_v6 (by decide)).trans (W3_of m c G main_v6 (by decide) (by decide))

end Cert.Proof.Run

end
-- ==== Proof.BoundMath.lean ====
/- The two ways of bounding a product with an interval vector, in plain numbers, and why they agree. -/
module

public import Idealize.ShloMosaic.Lib.Pointwise
public import Idealize.ShloMosaic.Lib.IdealHost

@[expose] public section

set_option maxRecDepth 16384

noncomputable section

namespace Cert.Proof

open Idealize.ShloMosaic

/-- The lower bound from centres and radii: the centres' sum less the radii's sum over the absolute values. -/
def lowerSum (c r p : Fin 1025 → EReal) : EReal := ∑ i, c i * p i - ∑ i, r i * max (p i) (-p i)

/-- The upper bound from centres and radii. -/
def upperSum (c r p : Fin 1025 → EReal) : EReal := ∑ i, c i * p i + ∑ i, r i * max (p i) (-p i)

/-- The sum over the positive and negative parts: `a` weighs the positive part, `b` the negative one, and the last entry is added. -/
def partsSum (a b : Fin 1024 → EReal) (p : Fin 1025 → EReal) : EReal :=
  ∑ i : Fin 1024, a i * max (p ⟨i.val, by omega⟩) 0 + ∑ i : Fin 1024, b i * min (p ⟨i.val, by omega⟩) 0 + p 1024

/-- The word of one half reads as one half. -/
theorem half_word : Ideal.ofBits .f32 0x3F000000#32 = (((1 : ℝ) / 2 : ℝ) : EReal) := by
  simp [Ideal.ofBits, Ideal.ieee, -EReal.coe_mul]; norm_num

/-- The centres: half the sum of the ends, and a one for the constant coordinate. -/
def centre (l u : Fin 1024 → EReal) (i : Fin 1025) : EReal :=
  if h : i.val < 1024 then (l ⟨i.val, h⟩ + u ⟨i.val, h⟩) * Ideal.ofBits .f32 0x3F000000#32 else 1

/-- The radii: half the difference of the ends, and a zero for the constant coordinate. -/
def radius (l u : Fin 1024 → EReal) (i : Fin 1025) : EReal :=
  if h : i.val < 1024 then (u ⟨i.val, h⟩ - l ⟨i.val, h⟩) * Ideal.ofBits .f32 0x3F000000#32 else 0

/-- A finite sum of reals, read among the extended reals. -/
theorem coe_sum_real {n : ℕ} (f : Fin n → ℝ) : ((∑ i, f i : ℝ) : EReal) = ∑ i, (f i : EReal) := by
  induction n with
  | zero => simp
  | succ n ih => rw [Fin.sum_univ_succ, Fin.sum_univ_succ, EReal.coe_add, ih]

/-- A finite sum of products of reals is a real. -/
theorem sum_mul_real {n : ℕ} (f g : Fin n → EReal) (hf : ∀ i, ∃ a : ℝ, f i = a) (hg : ∀ i, ∃ a : ℝ, g i = a) :
    ∃ a : ℝ, ∑ i, f i * g i = a := by
  choose a ha using hf
  choose b hb using hg
  exact ⟨∑ i, a i * b i, by rw [coe_sum_real]; exact Finset.sum_congr rfl fun i _ => by rw [ha, hb, EReal.coe_mul]⟩

/-- The larger of two reals, read among the extended reals. -/
theorem coe_max_real (a b : ℝ) : ((max a b : ℝ) : EReal) = max (a : EReal) b := EReal.coe_strictMono.monotone.map_max

/-- The smaller of two reals, read among the extended reals. -/
theorem coe_min_real (a b : ℝ) : ((min a b : ℝ) : EReal) = min (a : EReal) b := EReal.coe_strictMono.monotone.map_min

/-- Centre times a number less radius times its size is the lower end times the positive part and the upper end times the negative one. -/
theorem lower_entry (l u p : ℝ) : (l + u) * (1 / 2) * p - (u - l) * (1 / 2) * max p (-p) = l * max p 0 + u * min p 0 := by
  rcases le_total 0 p with h | h
  · rw [max_eq_left h, min_eq_right h, max_eq_left (by linarith)]; ring
  · rw [max_eq_right h, min_eq_left h, max_eq_right (by linarith)]; ring

/-- Centre times a number and radius times its size is the upper end times the positive part and the lower end times the negative one. -/
theorem upper_entry (l u p : ℝ) : (l + u) * (1 / 2) * p + (u - l) * (1 / 2) * max p (-p) = u * max p 0 + l * min p 0 := by
  rcases le_total 0 p with h | h
  · rw [max_eq_left h, min_eq_right h, max_eq_left (by linarith)]; ring
  · rw [max_eq_right h, min_eq_left h, max_eq_right (by linarith)]; ring

/-- The centres' sum: a real, and the last entry as it is. -/
theorem centre_sum (l u p : Fin 1024 → ℝ) (P : Fin 1025 → EReal) (hp : ∀ i : Fin 1024, P i.castSucc = p i) :
    ∑ i, centre (fun i => l i) (fun i => u i) i * P i = ((∑ i, (l i + u i) * (1 / 2) * p i : ℝ) : EReal) + P 1024 := by
  rw [Fin.sum_univ_castSucc, coe_sum_real]
  congr 1
  · refine Finset.sum_congr rfl fun i _ => ?_
    rw [hp, centre, dif_pos (show (i.castSucc : Fin 1025).val < 1024 from i.isLt), half_word]
    push_cast
    rfl
  · rw [centre, dif_neg (by decide), one_mul]; rfl

/-- The radii's sum is a real, whatever the last entry. -/
theorem radius_sum (l u p : Fin 1024 → ℝ) (P : Fin 1025 → EReal) (hp : ∀ i : Fin 1024, P i.castSucc = p i) :
    ∑ i, radius (fun i => l i) (fun i => u i) i * max (P i) (-P i)
      = ((∑ i, (u i - l i) * (1 / 2) * max (p i) (-p i) : ℝ) : EReal) := by
  rw [Fin.sum_univ_castSucc, coe_sum_real]
  have hz : radius (fun i => (l i : EReal)) (fun i => (u i : EReal)) (Fin.last 1024) = 0 := by
    rw [radius, dif_neg (by decide)]
  rw [hz, zero_mul, add_zero]
  refine Finset.sum_congr rfl fun i _ => ?_
  rw [hp, radius, dif_pos (show (i.castSucc : Fin 1025).val < 1024 from i.isLt), half_word, EReal.coe_mul, EReal.coe_mul,
    EReal.coe_sub, coe_max_real, EReal.coe_neg]
  rfl

/-- The sum over the parts: a real, and the last entry as it is. -/
theorem parts_sum (a b p : Fin 1024 → ℝ) (P : Fin 1025 → EReal) (hp : ∀ i : Fin 1024, P i.castSucc = p i) :
    partsSum (fun i => a i) (fun i => b i) P = ((∑ i, (a i * max (p i) 0 + b i * min (p i) 0) : ℝ) : EReal) + P 1024 := by
  unfold partsSum
  congr 1
  rw [Finset.sum_add_distrib, EReal.coe_add, coe_sum_real, coe_sum_real]
  have hq : ∀ i : Fin 1024, P ⟨i.val, by omega⟩ = p i := hp
  congr 1
  · exact Finset.sum_congr rfl fun i _ => by rw [hq, EReal.coe_mul, coe_max_real, EReal.coe_zero]
  · exact Finset.sum_congr rfl fun i _ => by rw [hq, EReal.coe_mul, coe_min_real, EReal.coe_zero]

/-- The lower bounds agree: ends and mapped entries are reals, the last entry is anything. -/
theorem lower_eq (l u : Fin 1024 → EReal) (P : Fin 1025 → EReal) (hl : ∀ i, ∃ a : ℝ, l i = a) (hu : ∀ i, ∃ a : ℝ, u i = a)
    (hP : ∀ i : Fin 1024, ∃ a : ℝ, P i.castSucc = a) : lowerSum (centre l u) (radius l u) P = partsSum l u P := by
  choose l' hl using hl
  choose u' hu using hu
  choose p hp using hP
  obtain rfl : l = fun i => (l' i : EReal) := funext hl
  obtain rfl : u = fun i => (u' i : EReal) := funext hu
  rw [parts_sum l' u' p P hp, lowerSum, centre_sum l' u' p P hp, radius_sum l' u' p P hp]
  rw [← Finset.sum_congr rfl fun i _ => lower_entry (l' i) (u' i) (p i), Finset.sum_sub_distrib, EReal.coe_sub]
  rw [sub_eq_add_neg, sub_eq_add_neg]
  ac_rfl

/-- The upper bounds agree: ends and mapped entries are reals, the last entry is anything. -/
theorem upper_eq (l u : Fin 1024 → EReal) (P : Fin 1025 → EReal) (hl : ∀ i, ∃ a : ℝ, l i = a) (hu : ∀ i, ∃ a : ℝ, u i = a)
    (hP : ∀ i : Fin 1024, ∃ a : ℝ, P i.castSucc = a) : upperSum (centre l u) (radius l u) P = partsSum u l P := by
  choose l' hl using hl
  choose u' hu using hu
  choose p hp using hP
  obtain rfl : l = fun i => (l' i : EReal) := funext hl
  obtain rfl : u = fun i => (u' i : EReal) := funext hu
  rw [parts_sum u' l' p P hp, upperSum, centre_sum l' u' p P hp, radius_sum l' u' p P hp]
  rw [← Finset.sum_congr rfl fun i _ => upper_entry (l' i) (u' i) (p i), Finset.sum_add_distrib, EReal.coe_add]
  ac_rfl

end Cert.Proof

end
-- ==== Proof.Fetched.lean ====
/- What the second call's body reads at a grid point: the matrix of constraints, the tile of the affine matrix, the two rows. -/
module

public import proofs.«01_k».proof.Proof.MatrixA
public import proofs.«01_k».proof.Proof.BoundMath
public import Idealize.ShloMosaic.Lib.Pipeline.ValueKit

@[expose] public section

set_option maxRecDepth 16384

noncomputable section

namespace Cert.Proof.Run

open Cert.KernelIdeal Cert.KernelIdeal.Gen
open Idealize.ShloMosaic Idealize.ShloMosaic.TcCoe Idealize.ShloMosaic.StableHlo
open Idealize.SL Idealize.SL.Sem
open Idealize.ShloMosaic.Pipeline (Dat RDat Cfg Window BodyObligation cellOf)

variable (m : (ℓ : Loc nD τ sig) → Buf (Elt Ideal) ℓ)

/-- The matrix of constraints is one block. -/
theorem idx1_0 : ∀ t : Fin cfg1.N, win1_0.index t = ![0, 0] := (by decide +kernel : ∀ t : Fin grid1.N, _)

/-- The row of centres is one block. -/
theorem idx1_2 : ∀ t : Fin cfg1.N, win1_2.index t = ![0, 0] := (by decide +kernel : ∀ t : Fin grid1.N, _)

/-- The row of radii is one block. -/
theorem idx1_3 : ∀ t : Fin cfg1.N, win1_3.index t = ![0, 0] := (by decide +kernel : ∀ t : Fin grid1.N, _)

/-- The columns moved at each grid point: a tile's, or the one that is left. -/
theorem cols1_1 : ∀ t : Fin cfg1.N, win1_1.xsize (grid1.coords t) (1 : Fin 2) = min 512 (4097 - t.val * 512) :=
  (by decide +kernel : ∀ t : Fin grid1.N, _)

/-- The tile of the affine matrix each grid point reads. -/
theorem idx1_1 : ∀ t : Fin cfg1.N, win1_1.index t = ![0, t.val] := (by decide +kernel : ∀ t : Fin grid1.N, _)

/-- The block of the lower row each grid point writes. -/
theorem idx1_4 : ∀ t : Fin cfg1.N, win1_4.index t = ![0, t.val] := (by decide +kernel : ∀ t : Fin grid1.N, _)

/-- The block of the upper row each grid point writes. -/
theorem idx1_5 : ∀ t : Fin cfg1.N, win1_5.index t = ![0, t.val] := (by decide +kernel : ∀ t : Fin grid1.N, _)

/-- The first window holds the whole matrix of constraints. -/
theorem fetch1_0 (c : Dev nD) (t : Fin cfg1.N) (d) (i : Fin 1025) (j : Fin 3073) :
    (fetch1 m c 0 t d : FVec Ideal S1025x3073 .f32) (ix2 i j) =
      (m ((c : Thread nD τ).loc main_arg6) : FVec Ideal S1025x3073 .f32) (ix2 i j) := by
  have e : W2 m c main_arg6 = m ((c : Thread nD τ).loc main_arg6) :=
    (W2_of m c main_arg6 (by decide)).trans (W1_of m c main_arg6 (by decide))
  rw [← e]
  unfold fetch1 Window.fill
  rw [dif_pos (((cfg1.win 0).moved_iff _ _).mpr fun x => (ix2 i j x).isLt)]
  blk_simp
  refine congrArg _ ?_
  blk_ext [idx1_0]

/-- The third window holds the whole row of centres. -/
theorem fetch1_2 (c : Dev nD) (t : Fin cfg1.N) (d) (i : Fin 1025) :
    (fetch1 m c 2 t d : FVec Ideal S1x1025 .f32) (ix2 0 i) = (W2 m c main_v15 : FVec Ideal S1x1025 .f32) (ix2 0 i) := by
  unfold fetch1 Window.fill
  rw [dif_pos (((cfg1.win 2).moved_iff _ _).mpr fun x => (ix2 (0 : Fin 1) i x).isLt)]
  blk_simp
  refine congrArg _ ?_
  blk_ext [idx1_2]

/-- The fourth window holds the whole row of radii. -/
theorem fetch1_3 (c : Dev nD) (t : Fin cfg1.N) (d) (i : Fin 1025) :
    (fetch1 m c 3 t d : FVec Ideal S1x1025 .f32) (ix2 0 i) = (W2 m c main_v18 : FVec Ideal S1x1025 .f32) (ix2 0 i) := by
  unfold fetch1 Window.fill
  rw [dif_pos (((cfg1.win 3).moved_iff _ _).mpr fun x => (ix2 (0 : Fin 1) i x).isLt)]
  blk_simp
  refine congrArg _ ?_
  blk_ext [idx1_3]

/-- The second window holds the matrix's columns of its tile, as far as there are any. -/
theorem fetch1_1 (c : Dev nD) (t : Fin cfg1.N) (d) (j : Fin 3073) (k : Fin 512) (hk : t.val * 512 + k.val < 4097) :
    (fetch1 m c 1 t d : FVec Ideal S3073x512 .f32) (ix2 j k) =
      (W2 m c main_v6 : FVec Ideal S3073x4097 .f32) (ix2 j ⟨t.val * 512 + k.val, hk⟩) := by
  unfold fetch1 Window.fill
  rw [dif_pos (((cfg1.win 1).moved_iff _ _).mpr fun x => ?_)]
  · blk_simp
    refine congrArg _ ?_
    blk_ext [idx1_1]
  · fin_cases x
    · exact j.isLt
    · have h := cols1_1 t
      have e : (cfg1.win 1).xsize (cfg1.grid.coords t) (1 : Fin 2) = min 512 (4097 - t.val * 512) := h
      show k.val < (cfg1.win 1).xsize (cfg1.grid.coords t) (1 : Fin 2)
      rw [e]; omega

/-- The row of centres at an index. -/
theorem mid_row (c : Dev nD) (i : Fin 1025) : (W2 m c main_v15 : FVec Ideal S1x1025 .f32) (ix2 0 i) =
    centre (fun i => (m ((c : Thread nD τ).loc main_arg7) : FVec Ideal S1024 .f32) (ix1 i))
      (fun i => (m ((c : Thread nD τ).loc main_arg8) : FVec Ideal S1024 .f32) (ix1 i)) i := by
  have e7 : W1 m c main_arg7 = m ((c : Thread nD τ).loc main_arg7) := W1_of m c main_arg7 (by decide)
  have e8 : W1 m c main_arg8 = m ((c : Thread nD τ).loc main_arg8) := W1_of m c main_arg8 (by decide)
  unfold W2
  rw [host1_v15, e7, e8]
  pointwise [mid, centre]

/-- The row of radii at an index. -/
theorem rad_row (c : Dev nD) (i : Fin 1025) : (W2 m c main_v18 : FVec Ideal S1x1025 .f32) (ix2 0 i) =
    radius (fun i => (m ((c : Thread nD τ).loc main_arg7) : FVec Ideal S1024 .f32) (ix1 i))
      (fun i => (m ((c : Thread nD τ).loc main_arg8) : FVec Ideal S1024 .f32) (ix1 i)) i := by
  have e7 : W1 m c main_arg7 = m ((c : Thread nD τ).loc main_arg7) := W1_of m c main_arg7 (by decide)
  have e8 : W1 m c main_arg8 = m ((c : Thread nD τ).loc main_arg8) := W1_of m c main_arg8 (by decide)
  unfold W2
  rw [host1_v18, e7, e8]
  pointwise [rad, radius]

end Cert.Proof.Run

end
-- ==== Proof.Pay1.lean ====
/- The second body's two payloads at an index: products of the two rows with the mapped matrix and its absolute values. -/
module

public import proofs.«01_k».proof.Proof.Body1
public import proofs.«01_k».proof.Proof.BoundMath
public import Idealize.ShloMosaic.Lib.Pointwise

@[expose] public section

set_option maxRecDepth 16384

noncomputable section

namespace Cert.Proof.Run

open Cert.KernelIdeal Cert.KernelIdeal.Gen
open Idealize.ShloMosaic Idealize.ShloMosaic.TcCoe

/-- The mapped matrix at an index. -/
theorem pay1_apply (x0 : FVec Ideal S1025x3073 .f32) (x1 : FVec Ideal S3073x512 .f32) (i : Fin 1025) (k : Fin 512) :
    k1_pay1 (F := Ideal) x0 x1 (ix2 i k) = ∑ j : Fin 3073, x0 (ix2 i j) * x1 (ix2 j k) := by
  pointwise [k1_pay1]

/-- The lower row at a column: the centres' product less the radii's product with the absolute values. -/
theorem pay4_apply (x0 : FVec Ideal S1025x3073 .f32) (x1 : FVec Ideal S3073x512 .f32) (x2 x3 : FVec Ideal S1x1025 .f32)
    (k : Fin 512) :
    k1_pay4 (F := Ideal) x0 x1 x2 x3 (ix2 0 k)
      = lowerSum (fun i => x2 (ix2 0 i)) (fun i => x3 (ix2 0 i)) fun i => ∑ j : Fin 3073, x0 (ix2 i j) * x1 (ix2 j k) := by
  pointwise [k1_pay4, k1_pay2, k1_pay3]
  simp only [pay1_apply]
  rfl

/-- The upper row at a column: the centres' product and the radii's product with the absolute values. -/
theorem pay5_apply (x0 : FVec Ideal S1025x3073 .f32) (x1 : FVec Ideal S3073x512 .f32) (x2 x3 : FVec Ideal S1x1025 .f32)
    (k : Fin 512) :
    k1_pay5 (F := Ideal) x0 x1 x2 x3 (ix2 0 k)
      = upperSum (fun i => x2 (ix2 0 i)) (fun i => x3 (ix2 0 i)) fun i => ∑ j : Fin 3073, x0 (ix2 i j) * x1 (ix2 j k) := by
  pointwise [k1_pay5, k1_pay2, k1_pay3]
  simp only [pay1_apply]
  rfl

end Cert.Proof.Run

end
-- ==== Proof.Mapped.lean ====
/- The constraints mapped through the affine matrix, and the place of an output element in it. -/
module

public import proofs.«01_k».proof.Proof.Spec
public import proofs.«01_k».proof.Proof.BoundMath

@[expose] public section

noncomputable section

namespace Cert.Proof

open Idealize.ShloMosaic

/-- The product of the matrix of constraints and the affine matrix, at row `i` and column `k`. -/
def mapped (M : FVec Ideal ⟨2, ![1025, 3073]⟩ .f32) (W : FVec Ideal ⟨4, ![16, 3, 4, 4]⟩ .f32) (B : FVec Ideal ⟨1, ![16]⟩ .f32)
    (k : Fin 4097) (i : Fin 1025) : EReal := ∑ j : Fin 3073, M (ix2 i j) * affine W B j k

/-- The column of an output element: channel, row and column of its plane. -/
def column (a b d : Fin 16) : Fin 4097 := ⟨a.val * 256 + b.val * 16 + d.val, by omega⟩

end Cert.Proof

end
-- ==== Proof.Bounds.lean ====
/- The kernel's two bounds at an index: each output block is the payload at its fetched tile, each column of a tile is on its own. -/
module

public import proofs.«01_k».proof.Proof.Fetched
public import proofs.«01_k».proof.Proof.Pay1
public import proofs.«01_k».proof.Proof.Mapped
public import Idealize.ShloMosaic.Lib.Pipeline.ArrRel

@[expose] public section

set_option maxRecDepth 16384

noncomputable section

namespace Cert.Proof.Run

open Cert.KernelIdeal Cert.KernelIdeal.Gen
open Idealize.ShloMosaic Idealize.ShloMosaic.TcCoe Idealize.ShloMosaic.StableHlo
open Idealize.SL Idealize.SL.Sem
open Idealize.ShloMosaic.Pipeline (Dat RDat Cfg Window BodyObligation cellOf)

variable (m : (ℓ : Loc nD τ sig) → Buf (Elt Ideal) ℓ)

/-- The launch's lower ends. -/
abbrev lows (c : Dev nD) (i : Fin 1024) : EReal := (m ((c : Thread nD τ).loc main_arg7) : FVec Ideal S1024 .f32) (ix1 i)

/-- The launch's upper ends. -/
abbrev ups (c : Dev nD) (i : Fin 1024) : EReal := (m ((c : Thread nD τ).loc main_arg8) : FVec Ideal S1024 .f32) (ix1 i)

/-- The launch's constraints, mapped, at a column. -/
abbrev col (c : Dev nD) (k : Fin 4097) (i : Fin 1025) : EReal :=
  mapped (m ((c : Thread nD τ).loc main_arg6)) (m ((c : Thread nD τ).loc main_arg4)) (m ((c : Thread nD τ).loc main_arg5)) k i

/-- What the body may leave in the lower row's block, at a column that the matrix has. -/
theorem leaves4 (c : Dev nD) (t : Fin cfg1.N) (X : FVec Ideal S1x512 .f32) (h : (rd1 m c).Leaves 4 t X) (k : Fin 512)
    (hk : t.val * 512 + k.val < 4097) :
    X (ix2 0 k) = lowerSum (centre (lows m c) (ups m c)) (radius (lows m c) (ups m c)) (col m c ⟨t.val * 512 + k.val, hk⟩) := by
  obtain ⟨Y, -, h⟩ := h
  obtain ⟨x0, x1, x2, x3, h0, h1, h2, h3, e⟩ := h
  obtain ⟨d0, h0⟩ := h0
  obtain ⟨d1, h1⟩ := h1
  obtain ⟨d2, h2⟩ := h2
  obtain ⟨d3, h3⟩ := h3
  have e : X = k1_pay4 (F := Ideal) x0 x1 x2 x3 := e
  rw [e, pay4_apply]
  exact congr (congr (congrArg lowerSum (funext fun i => (congrFun h2 (ix2 0 i)).trans ((fetch1_2 m c t d2 i).trans (mid_row m c i))))
    (funext fun i => (congrFun h3 (ix2 0 i)).trans ((fetch1_3 m c t d3 i).trans (rad_row m c i))))
    (funext fun i => Finset.sum_congr rfl fun j _ => congr (congrArg HMul.hMul ((congrFun h0 (ix2 i j)).trans (fetch1_0 m c t d0 i j)))
      ((congrFun h1 (ix2 j k)).trans ((fetch1_1 m c t d1 j k hk).trans (matrix_apply m c j _))))

/-- What the body may leave in the upper row's block, at a column that the matrix has. -/
theorem leaves5 (c : Dev nD) (t : Fin cfg1.N) (X : FVec Ideal S1x512 .f32) (h : (rd1 m c).Leaves 5 t X) (k : Fin 512)
    (hk : t.val * 512 + k.val < 4097) :
    X (ix2 0 k) = upperSum (centre (lows m c) (ups m c)) (radius (lows m c) (ups m c)) (col m c ⟨t.val * 512 + k.val, hk⟩) := by
  obtain ⟨Y, -, h⟩ := h
  obtain ⟨x0, x1, x2, x3, h0, h1, h2, h3, e⟩ := h
  obtain ⟨d0, h0⟩ := h0
  obtain ⟨d1, h1⟩ := h1
  obtain ⟨d2, h2⟩ := h2
  obtain ⟨d3, h3⟩ := h3
  have e : X = k1_pay5 (F := Ideal) x0 x1 x2 x3 := e
  rw [e, pay5_apply]
  exact congr (congr (congrArg upperSum (funext fun i => (congrFun h2 (ix2 0 i)).trans ((fetch1_2 m c t d2 i).trans (mid_row m c i))))
    (funext fun i => (congrFun h3 (ix2 0 i)).trans ((fetch1_3 m c t d3 i).trans (rad_row m c i))))
    (funext fun i => Finset.sum_congr rfl fun j _ => congr (congrArg HMul.hMul ((congrFun h0 (ix2 i j)).trans (fetch1_0 m c t d0 i j)))
      ((congrFun h1 (ix2 j k)).trans ((fetch1_1 m c t d1 j k hk).trans (matrix_apply m c j _))))

/-- Every element type of the arithmetic has a value. -/
instance (e : EltTy) : Nonempty (Elt Ideal e) := by
  cases e <;> infer_instance

/-- The lower row's array at the end, at a column that the matrix has. -/
theorem left4 (c : Dev nD) (G : Left m c) (k : Fin 4608) (hk : k.val < 4097) :
    (G.1 4 : FVec Ideal S1x4608 .f32) (ix2 0 k) =
      lowerSum (centre (lows m c) (ups m c)) (radius (lows m c) (ups m c)) (col m c ⟨k.val, hk⟩) := by
  obtain ⟨after, hL, hG⟩ := RDat.ArrAt.exists_exact_all G.2
  rw [hG 4]
  refine ((rd1 m c).withAfter after).arrAt_forall_of_covers 4 (fun (i : S1x4608.Idx) (v : EReal) => ∀ h : (i 1).val < 4097, v =
    lowerSum (centre (lows m c) (ups m c)) (radius (lows m c) (ups m c)) (col m c ⟨(i 1).val, h⟩)) (by decide +kernel)
    (fun t hf y => ?_) (ix2 0 k) (Memref.isWhole_whole _) hk
  have hX := hL 4 t t.isLt hf
  blk_simp [idx1_4]
  have key : ∀ (p : S1x512.Idx) (h : t.val * 512 + (p 1).val < 4097), (after 4 t : FVec Ideal S1x512 .f32) p =
      lowerSum (centre (lows m c) (ups m c)) (radius (lows m c) (ups m c)) (col m c ⟨t.val * 512 + (p 1).val, h⟩) := fun p h => by
    have hp : p = ix2 0 (p 1) := by
      refine (eq_ix2 p).trans (congrArg (fun a => ix2 a (p 1)) (Fin.ext ?_))
      have := (p 0).isLt
      change (p 0).val < 1 at this
      show (p 0).val = 0
      omega
    exact (congrArg (after 4 t : FVec Ideal S1x512 .f32) hp).trans (leaves4 m c t _ hX (p 1) h)
  exact fun h => key ((cfg1.win 4).xinj (cfg1.grid.coords t) y) h

/-- The upper row's array at the end, at a column that the matrix has. -/
theorem left5 (c : Dev nD) (G : Left m c) (k : Fin 4608) (hk : k.val < 4097) :
    (G.1 5 : FVec Ideal S1x4608 .f32) (ix2 0 k) =
      upperSum (centre (lows m c) (ups m c)) (radius (lows m c) (ups m c)) (col m c ⟨k.val, hk⟩) := by
  obtain ⟨after, hL, hG⟩ := RDat.ArrAt.exists_exact_all G.2
  rw [hG 5]
  refine ((rd1 m c).withAfter after).arrAt_forall_of_covers 5 (fun (i : S1x4608.Idx) (v : EReal) => ∀ h : (i 1).val < 4097, v =
    upperSum (centre (lows m c) (ups m c)) (radius (lows m c) (ups m c)) (col m c ⟨(i 1).val, h⟩)) (by decide +kernel)
    (fun t hf y => ?_) (ix2 0 k) (Memref.isWhole_whole _) hk
  have hX := hL 5 t t.isLt hf
  blk_simp [idx1_5]
  have key : ∀ (p : S1x512.Idx) (h : t.val * 512 + (p 1).val < 4097), (after 5 t : FVec Ideal S1x512 .f32) p =
      upperSum (centre (lows m c) (ups m c)) (radius (lows m c) (ups m c)) (col m c ⟨t.val * 512 + (p 1).val, h⟩) := fun p h => by
    have hp : p = ix2 0 (p 1) := by
      refine (eq_ix2 p).trans (congrArg (fun a => ix2 a (p 1)) (Fin.ext ?_))
      have := (p 0).isLt
      change (p 0).val < 1 at this
      show (p 0).val = 0
      omega
    exact (congrArg (after 5 t : FVec Ideal S1x512 .f32) hp).trans (leaves5 m c t _ hX (p 1) h)
  exact fun h => key ((cfg1.win 5).xinj (cfg1.grid.coords t) y) h

/-- The lower bounds at the end, at an index. -/
theorem W4_v22 (c : Dev nD) (G : Left m c) (a b d : Fin 16) : (W4 m c G main_v22 : FVec Ideal S16x16x16 .f32) (ix3 a b d) =
    lowerSum (centre (lows m c) (ups m c)) (radius (lows m c) (ups m c)) (col m c (column a b d)) := by
  have e : W3 m c G main_v19_0 = G.1 4 := (Function.update_of_ne (devRef_ne_of_ne (by decide)) _ _).trans (Function.update_self _ _ _)
  unfold W4
  rw [host2_v22, e]
  pointwise
  exact left4 m c G ⟨(column a b d).val, (column a b d).isLt.trans (by decide)⟩ (column a b d).isLt

/-- The upper bounds at the end, at an index. -/
theorem W4_v25 (c : Dev nD) (G : Left m c) (a b d : Fin 16) : (W4 m c G main_v25 : FVec Ideal S16x16x16 .f32) (ix3 a b d) =
    upperSum (centre (lows m c) (ups m c)) (radius (lows m c) (ups m c)) (col m c (column a b d)) := by
  have e : W3 m c G main_v19_1 = G.1 5 := Function.update_self _ _ _
  unfold W4
  rw [host2_v25, e]
  pointwise
  exact left5 m c G ⟨(column a b d).val, (column a b d).isLt.trans (by decide)⟩ (column a b d).isLt

end Cert.Proof.Run

end
-- ==== Proof.RefTaps.lean ====
/- What one tap of the reference's Jacobian holds: the weight of that kernel place, where input and output element meet there. -/
module

public import proofs.«01_k».proof.Proof.Gen.ReferenceIdeal.Run
public import proofs.«01_k».proof.Proof.Spec

@[expose] public section

set_option maxRecDepth 16384

noncomputable section

namespace Cert.Proof.Ref

open Cert.ReferenceIdeal Cert.ReferenceIdeal.Gen Idealize.ShloMosaic Idealize.ShloMosaic.TcCoe Idealize.SL.Sem
open Cert.ReferenceIdeal.Value Idealize.ShloMosaic.StableHlo

/-- A comparison of two small words for equality, as a number: one where they are equal, zero where not. -/
theorem eq_bit (a b : ℕ) (ha : a < 2 ^ 32) (hb : b < 2 ^ 32) :
    (FloatOps.uitofp FTy.f32 (IntOp.cmpi CmpIPredicate.eq (IntOp.addi (BitVec.ofNat 32 a) 0#32) (BitVec.ofNat 32 b)) : Ideal .f32)
      = if a = b then (1 : EReal) else 0 := by
  have h : (BitVec.ofNat 32 a = BitVec.ofNat 32 b) ↔ a = b := by
    constructor
    · intro h
      have := congrArg BitVec.toNat h
      rwa [BitVec.toNat_ofNat, BitVec.toNat_ofNat, Nat.mod_eq_of_lt ha, Nat.mod_eq_of_lt hb] at this
    · rintro rfl; rfl
  by_cases hab : a = b
  · have e : IntOp.cmpi CmpIPredicate.eq (IntOp.addi (BitVec.ofNat 32 a) 0#32) (BitVec.ofNat 32 b) = 1#1 := by
      simp [IntOp.cmpi, IntOp.addi, hab]
    rw [e, if_pos hab]
    show (((((1#1 : BitVec 1).toNat : ℕ) : ℝ)) : EReal) = 1
    norm_num
  · have e : IntOp.cmpi CmpIPredicate.eq (IntOp.addi (BitVec.ofNat 32 a) 0#32) (BitVec.ofNat 32 b) = 0#1 := by
      have : (BitVec.ofNat 32 a == BitVec.ofNat 32 b) = false := beq_eq_false_iff_ne.2 fun e => hab (h.1 e)
      simp only [IntOp.cmpi, IntOp.addi, BitVec.add_zero, this]; rfl
    rw [e, if_neg hab]
    show (((((0#1 : BitVec 1).toNat : ℕ) : ℝ)) : EReal) = 0
    norm_num

/-- The padded basis at an index: one at the place of basis element `r` inside the border of zeros of width one. -/
theorem basis_apply (V0 : Valuation τ sig (Elt Ideal)) (r : Fin 3072) (ch : Fin 3) (y x : Fin 34) :
    (res_main_v10_1 V0 : FVec Ideal S3072x3x34x34 .f32) (ix4 r ch y x) = if (1 ≤ y.val ∧ y.val ≤ 32) ∧ (1 ≤ x.val ∧ x.val ≤ 32) ∧
      r.val = ch.val * 1024 + (y.val - 1) * 32 + (x.val - 1) then (1 : EReal) else 0 := by
  pointwise [res_main_v10_1]
  by_cases h : (1 ≤ y.val ∧ y.val - 1 < 32) ∧ 1 ≤ x.val ∧ x.val - 1 < 32
  · rw [dif_pos h, eq_bit _ _ (by omega) (by omega)]
    exact if_congr ⟨fun e => ⟨by omega, by omega, e⟩, fun e => e.2.2⟩ rfl rfl
  · rw [dif_neg h, if_neg fun e => h ⟨by omega, by omega⟩]

/-- One tap at an index: the weight of kernel place `(kh, kw)` where the input element lies there under the output element. -/
theorem tap_sum (kh kw : Fin 4) (W : FVec Ideal S16x3x4x4 .f32) (V0 : Valuation τ sig (Elt Ideal)) (T : FVec Ideal S16x3 .f32)
    (hT : ∀ oc ch, T (ix2 oc ch) = W (ix4 oc ch kh kw))
    (oc : Fin 16) (r : Fin 3072) (oh ow : Fin 16) (Y X : Fin 34) (hY : Y.val = kh.val + 2 * oh.val) (hX : X.val = kw.val + 2 * ow.val) :
    (∑ ch : Fin 3, T (ix2 oc ch) * (res_main_v10_1 V0 : FVec Ideal S3072x3x34x34 .f32) (ix4 r ch Y X) : EReal)
      = if 2 * oh.val + kh.val = r.val % 1024 / 32 + 1 ∧ 2 * ow.val + kw.val = r.val % 32 + 1 then
        W (ix4 oc ⟨r.val / 1024, by omega⟩ kh kw) else 0 := by
  have hk : ∀ ch : Fin 3, (T (ix2 oc ch) * (res_main_v10_1 V0 : FVec Ideal S3072x3x34x34 .f32) (ix4 r ch Y X) : EReal) =
      if ch = ⟨r.val / 1024, by omega⟩ ∧ 2 * oh.val + kh.val = r.val % 1024 / 32 + 1 ∧ 2 * ow.val + kw.val = r.val % 32 + 1 then
        W (ix4 oc ch kh kw) else 0 := by
    intro ch
    rw [basis_apply, hT]
    split_ifs with ha hb hb
    · exact mul_one _
    · exact absurd ⟨Fin.ext (by dsimp only; omega), by omega, by omega⟩ hb
    · refine absurd ?_ ha
      have := congrArg Fin.val hb.1
      dsimp only at this
      omega
    · exact mul_zero _
  refine (Finset.sum_congr rfl fun ch _ => hk ch).trans ?_
  by_cases h : 2 * oh.val + kh.val = r.val % 1024 / 32 + 1 ∧ 2 * ow.val + kw.val = r.val % 32 + 1
  · rw [if_pos h, Finset.sum_eq_single ⟨r.val / 1024, by omega⟩]
    · exact if_pos ⟨rfl, h⟩
    · intro b _ hb; exact if_neg fun e => hb e.1
    · intro hb; exact absurd (Finset.mem_univ _) hb
  · rw [if_neg h]
    exact Finset.sum_eq_zero fun b _ => if_neg fun e => h e.2

/-- Equal terms have equal sums. -/
theorem add_congr {a a' b b' : EReal} (h : a = a') (h' : b = b') : a + b = a' + b' := by rw [h, h']

set_option maxHeartbeats 4000000 in
/-- The Jacobian, transposed, at an index: the convolution's entry. -/
theorem jac_apply (V0 : Valuation τ sig (Elt Ideal)) (r : Fin 3072) (c : Fin 4096) :
    (res_main_v147 V0 : FVec Ideal S3072x4096 .f32) (ix2 r c) =
      convEntry (V0 (Proc.devRef .tc main_arg4)) r.val c.val := by
  let W : FVec Ideal S16x3x4x4 .f32 := V0 (Proc.devRef .tc main_arg4)
  obtain ⟨E, hE⟩ : ∃ E : EReal, E = convEntry W r.val c.val := ⟨_, rfl⟩
  refine Eq.trans (b := E) ?_ hE
  pointwise [res_main_v147]
  have w0 : ∀ oc ch, (res_main_v15 V0 : FVec Ideal S16x3 .f32) (ix2 oc ch) = W (ix4 oc ch 0 0) := by
    intro oc ch; pointwise [res_main_v15]; rfl
  have h0 := tap_sum 0 0 W V0 (res_main_v15 V0) w0
    ⟨c.val / 256, by omega⟩ r ⟨c.val % 256 / 16, by omega⟩ ⟨c.val % 16, by omega⟩
  have w1 : ∀ oc ch, (res_main_v22 V0 : FVec Ideal S16x3 .f32) (ix2 oc ch) = W (ix4 oc ch 0 1) := by
    intro oc ch; pointwise [res_main_v22]; rfl
  have h1 := tap_sum 0 1 W V0 (res_main_v22 V0) w1
    ⟨c.val / 256, by omega⟩ r ⟨c.val % 256 / 16, by omega⟩ ⟨c.val % 16, by omega⟩
  have w2 : ∀ oc ch, (res_main_v30 V0 : FVec Ideal S16x3 .f32) (ix2 oc ch) = W (ix4 oc ch 0 2) := by
    intro oc ch; pointwise [res_main_v30]; rfl
  have h2 := tap_sum 0 2 W V0 (res_main_v30 V0) w2
    ⟨c.val / 256, by omega⟩ r ⟨c.val % 256 / 16, by omega⟩ ⟨c.val % 16, by omega⟩
  have w3 : ∀ oc ch, (res_main_v38 V0 : FVec Ideal S16x3 .f32) (ix2 oc ch) = W (ix4 oc ch 0 3) := by
    intro oc ch; pointwise [res_main_v38]; rfl
  have h3 := tap_sum 0 3 W V0 (res_main_v38 V0) w3
    ⟨c.val / 256, by omega⟩ r ⟨c.val % 256 / 16, by omega⟩ ⟨c.val % 16, by omega⟩
  have w4 : ∀ oc ch, (res_main_v46 V0 : FVec Ideal S16x3 .f32) (ix2 oc ch) = W (ix4 oc ch 1 0) := by
    intro oc ch; pointwise [res_main_v46]; rfl
  have h4 := tap_sum 1 0 W V0 (res_main_v46 V0) w4
    ⟨c.val / 256, by omega⟩ r ⟨c.val % 256 / 16, by omega⟩ ⟨c.val % 16, by omega⟩
  have w5 : ∀ oc ch, (res_main_v54 V0 : FVec Ideal S16x3 .f32) (ix2 oc ch) = W (ix4 oc ch 1 1) := by
    intro oc ch; pointwise [res_main_v54]; rfl
  have h5 := tap_sum 1 1 W V0 (res_main_v54 V0) w5
    ⟨c.val / 256, by omega⟩ r ⟨c.val % 256 / 16, by omega⟩ ⟨c.val % 16, by omega⟩
  have w6 : ∀ oc ch, (res_main_v62 V0 : FVec Ideal S16x3 .f32) (ix2 oc ch) = W (ix4 oc ch 1 2) := by
    intro oc ch; pointwise [res_main_v62]; rfl
  have h6 := tap_sum 1 2 W V0 (res_main_v62 V0) w6
    ⟨c.val / 256, by omega⟩ r ⟨c.val % 256 / 16, by omega⟩ ⟨c.val % 16, by omega⟩
  have w7 : ∀ oc ch, (res_main_v70 V0 : FVec Ideal S16x3 .f32) (ix2 oc ch) = W (ix4 oc ch 1 3) := by
    intro oc ch; pointwise [res_main_v70]; rfl
  have h7 := tap_sum 1 3 W V0 (res_main_v70 V0) w7
    ⟨c.val / 256, by omega⟩ r ⟨c.val % 256 / 16, by omega⟩ ⟨c.val % 16, by omega⟩
  have w8 : ∀ oc ch, (res_main_v78 V0 : FVec Ideal S16x3 .f32) (ix2 oc ch) = W (ix4 oc ch 2 0) := by
    intro oc ch; pointwise [res_main_v78]; rfl
  have h8 := tap_sum 2 0 W V0 (res_main_v78 V0) w8
    ⟨c.val / 256, by omega⟩ r ⟨c.val % 256 / 16, by omega⟩ ⟨c.val % 16, by omega⟩
  have w9 : ∀ oc ch, (res_main_v86 V0 : FVec Ideal S16x3 .f32) (ix2 oc ch) = W (ix4 oc ch 2 1) := by
    intro oc ch; pointwise [res_main_v86]; rfl
  have h9 := tap_sum 2 1 W V0 (res_main_v86 V0) w9
    ⟨c.val / 256, by omega⟩ r ⟨c.val % 256 / 16, by omega⟩ ⟨c.val % 16, by omega⟩
  have w10 : ∀ oc ch, (res_main_v94 V0 : FVec Ideal S16x3 .f32) (ix2 oc ch) = W (ix4 oc ch 2 2) := by
    intro oc ch; pointwise [res_main_v94]; rfl
  have h10 := tap_sum 2 2 W V0 (res_main_v94 V0) w10
    ⟨c.val / 256, by omega⟩ r ⟨c.val % 256 / 16, by omega⟩ ⟨c.val % 16, by omega⟩
  have w11 : ∀ oc ch, (res_main_v102 V0 : FVec Ideal S16x3 .f32) (ix2 oc ch) = W (ix4 oc ch 2 3) := by
    intro oc ch; pointwise [res_main_v102]; rfl
  have h11 := tap_sum 2 3 W V0 (res_main_v102 V0) w11
    ⟨c.val / 256, by omega⟩ r ⟨c.val % 256 / 16, by omega⟩ ⟨c.val % 16, by omega⟩
  have w12 : ∀ oc ch, (res_main_v110 V0 : FVec Ideal S16x3 .f32) (ix2 oc ch) = W (ix4 oc ch 3 0) := by
    intro oc ch; pointwise [res_main_v110]; rfl
  have h12 := tap_sum 3 0 W V0 (res_main_v110 V0) w12
    ⟨c.val / 256, by omega⟩ r ⟨c.val % 256 / 16, by omega⟩ ⟨c.val % 16, by omega⟩
  have w13 : ∀ oc ch, (res_main_v118 V0 : FVec Ideal S16x3 .f32) (ix2 oc ch) = W (ix4 oc ch 3 1) := by
    intro oc ch; pointwise [res_main_v118]; rfl
  have h13 := tap_sum 3 1 W V0 (res_main_v118 V0) w13
    ⟨c.val / 256, by omega⟩ r ⟨c.val % 256 / 16, by omega⟩ ⟨c.val % 16, by omega⟩
  have w14 : ∀ oc ch, (res_main_v126 V0 : FVec Ideal S16x3 .f32) (ix2 oc ch) = W (ix4 oc ch 3 2) := by
    intro oc ch; pointwise [res_main_v126]; rfl
  have h14 := tap_sum 3 2 W V0 (res_main_v126 V0) w14
    ⟨c.val / 256, by omega⟩ r ⟨c.val % 256 / 16, by omega⟩ ⟨c.val % 16, by omega⟩
  have w15 : ∀ oc ch, (res_main_v134 V0 : FVec Ideal S16x3 .f32) (ix2 oc ch) = W (ix4 oc ch 3 3) := by
    intro oc ch; pointwise [res_main_v134]; rfl
  have h15 := tap_sum 3 3 W V0 (res_main_v134 V0) w15
    ⟨c.val / 256, by omega⟩ r ⟨c.val % 256 / 16, by omega⟩ ⟨c.val % 16, by omega⟩
  have hY : c.val / 16 % 16 = c.val % 256 / 16 := by omega
  refine Eq.trans ((add_congr ((add_congr ((add_congr ((add_congr ((add_congr ((add_congr ((add_congr ((add_congr ((add_congr ((add_congr ((add_congr ((add_congr ((add_congr ((add_congr (add_congr (h0 _ _ (by simp [hY]) (by simp)) (h1 _ _ (by simp [hY]) (by simp))) (h2 _ _ (by simp [hY]) (by simp)))) (h3 _ _ (by simp [hY]) (by simp)))) (h4 _ _ (by simp [hY]) (by simp)))) (h5 _ _ (by simp [hY]) (by simp)))) (h6 _ _ (by simp [hY]) (by simp)))) (h7 _ _ (by simp [hY]) (by simp)))) (h8 _ _ (by simp [hY]) (by simp)))) (h9 _ _ (by simp [hY]) (by simp)))) (h10 _ _ (by simp [hY]) (by simp)))) (h11 _ _ (by simp [hY]) (by simp)))) (h12 _ _ (by simp [hY]) (by simp)))) (h13 _ _ (by simp [hY]) (by simp)))) (h14 _ _ (by simp [hY]) (by simp)))) (h15 _ _ (by simp [hY]) (by simp)))) ?_
  rw [hE, ← sum_taps]
  simp only [Fin.sum_univ_four, add_assoc]

end Cert.Proof.Ref

end
-- ==== Proof.RefA.lean ====
/- The reference's affine matrix: three scatters put the Jacobian, the biases and the corner's one in place. -/
module

public import proofs.«01_k».proof.Proof.RefTaps
public import proofs.«01_k».proof.Proof.Scatter

@[expose] public section

set_option maxRecDepth 16384

noncomputable section

namespace Cert.Proof.Ref

open Cert.ReferenceIdeal Cert.ReferenceIdeal.Gen Idealize.ShloMosaic Idealize.ShloMosaic.TcCoe Idealize.SL.Sem
open Cert.ReferenceIdeal.Value Idealize.ShloMosaic.StableHlo

/-- The two start words of one scatter. -/
abbrev starts (a b : BitVec 32) : IVec S2 32 :=
  concatenate S2 0 [⟨S1, (broadcastInDim S1 ![] bcast_S_S1 (constantI S_ 32 a))⟩, ⟨S1, (broadcastInDim S1 ![] bcast_S_S1 (constantI S_ 32 b))⟩]
    concatenates_S1_S1_S2_d0

/-- The first start word. -/
theorem starts_zero (a b : BitVec 32) (i : S2.Idx) (hi : (i 0).val = 0) : starts a b i = a := by
  obtain rfl : i = ix1 0 := by funext k; obtain rfl : k = 0 := Subsingleton.elim _ _; exact Fin.ext hi
  pointwise [starts]

/-- The second start word. -/
theorem starts_one (a b : BitVec 32) (i : S2.Idx) (hi : (i 0).val = 1) : starts a b i = b := by
  obtain rfl : i = ix1 1 := by funext k; obtain rfl : k = 0 := Subsingleton.elim _ _; exact Fin.ext hi
  pointwise [starts]

/-- The scatter of the Jacobian lands each element at its own place. -/
theorem lands_jac (j : S3072x4096.Idx) : scatter_S3073x4097_S2_S3072x4096_01_n_01_0.resultIdx? j (starts 0#32 0#32) =
    some (ix2 ⟨(j 0).val, by have := (j 0).isLt; change _ < 3072 at this; omega⟩ ⟨(j 1).val, by have := (j 1).isLt; change _ < 4096 at this; omega⟩) := by
  refine resultIdx?_eq _ _ _ _ fun a => ?_
  fin_cases a
  · have h : scatter_S3073x4097_S2_S3072x4096_01_n_01_0.start j (starts 0#32 0#32) 0 = 0 := by
      unfold ScatterDims.start
      rw [dif_pos (by decide), starts_zero _ _ _ rfl]; rfl
    have h' : scatter_S3073x4097_S2_S3072x4096_01_n_01_0.window j 0 = (j 0).val := rfl
    show scatter_S3073x4097_S2_S3072x4096_01_n_01_0.start j (starts 0#32 0#32) 0 + scatter_S3073x4097_S2_S3072x4096_01_n_01_0.window j 0 = ((j 0).val : Int)
    rw [h, h', zero_add]
  · have h : scatter_S3073x4097_S2_S3072x4096_01_n_01_0.start j (starts 0#32 0#32) 1 = 0 := by
      unfold ScatterDims.start
      rw [dif_pos (by decide), starts_one _ _ _ rfl]; rfl
    have h' : scatter_S3073x4097_S2_S3072x4096_01_n_01_0.window j 1 = (j 1).val := rfl
    show scatter_S3073x4097_S2_S3072x4096_01_n_01_0.start j (starts 0#32 0#32) 1 + scatter_S3073x4097_S2_S3072x4096_01_n_01_0.window j 1 = ((j 1).val : Int)
    rw [h, h', zero_add]

/-- The scatter of the biases lands them in the last row. -/
theorem lands_bias (j : S4096.Idx) : scatter_S3073x4097_S2_S4096_0_0_01_0.resultIdx? j (starts 3072#32 0#32) =
    some (ix2 ⟨3072, by omega⟩ ⟨(j 0).val, by have := (j 0).isLt; change _ < 4096 at this; omega⟩) := by
  refine resultIdx?_eq _ _ _ _ fun a => ?_
  fin_cases a
  · have h : scatter_S3073x4097_S2_S4096_0_0_01_0.start j (starts 3072#32 0#32) 0 = 3072 := by
      unfold ScatterDims.start
      rw [dif_pos (by decide), starts_zero _ _ _ rfl]; rfl
    have h' : scatter_S3073x4097_S2_S4096_0_0_01_0.window j 0 = 0 := rfl
    show scatter_S3073x4097_S2_S4096_0_0_01_0.start j (starts 3072#32 0#32) 0 + scatter_S3073x4097_S2_S4096_0_0_01_0.window j 0 = (3072 : Int)
    rw [h, h']; rfl
  · have h : scatter_S3073x4097_S2_S4096_0_0_01_0.start j (starts 3072#32 0#32) 1 = 0 := by
      unfold ScatterDims.start
      rw [dif_pos (by decide), starts_one _ _ _ rfl]; rfl
    have h' : scatter_S3073x4097_S2_S4096_0_0_01_0.window j 1 = (j 0).val := rfl
    show scatter_S3073x4097_S2_S4096_0_0_01_0.start j (starts 3072#32 0#32) 1 + scatter_S3073x4097_S2_S4096_0_0_01_0.window j 1 = ((j 0).val : Int)
    rw [h, h', zero_add]

/-- The scatter of the one lands it in the corner. -/
theorem lands_one (j : S_.Idx) : scatter_S3073x4097_S2_S__n_01_01_0.resultIdx? j (starts 3072#32 4096#32) =
    some (ix2 ⟨3072, by omega⟩ ⟨4096, by omega⟩) := by
  refine resultIdx?_eq _ _ _ _ fun a => ?_
  fin_cases a
  · have h : scatter_S3073x4097_S2_S__n_01_01_0.start j (starts 3072#32 4096#32) 0 = 3072 := by
      unfold ScatterDims.start
      rw [dif_pos (by decide), starts_zero _ _ _ rfl]; rfl
    have h' : scatter_S3073x4097_S2_S__n_01_01_0.window j 0 = 0 := rfl
    show scatter_S3073x4097_S2_S__n_01_01_0.start j (starts 3072#32 4096#32) 0 + scatter_S3073x4097_S2_S__n_01_01_0.window j 0 = (3072 : Int)
    rw [h, h']; rfl
  · have h : scatter_S3073x4097_S2_S__n_01_01_0.start j (starts 3072#32 4096#32) 1 = 4096 := by
      unfold ScatterDims.start
      rw [dif_pos (by decide), starts_one _ _ _ rfl]; rfl
    have h' : scatter_S3073x4097_S2_S__n_01_01_0.window j 1 = 0 := rfl
    show scatter_S3073x4097_S2_S__n_01_01_0.start j (starts 3072#32 4096#32) 1 + scatter_S3073x4097_S2_S__n_01_01_0.window j 1 = (4096 : Int)
    rw [h, h']; rfl

/-- The reference's matrix at an index. -/
theorem affine_apply (V0 : Valuation τ sig (Elt Ideal)) (r : Fin 3073) (c : Fin 4097) :
    (res_main_v159 V0 : FVec Ideal S3073x4097 .f32) (ix2 r c) =
      affine (V0 (Proc.devRef .tc main_arg4)) (V0 (Proc.devRef .tc main_arg5)) r c := by
  unfold res_main_v159 affine
  by_cases hr : r.val < 3072
  · rw [if_pos hr]
    rw [scatter_miss _ _ _ _ _ lands_one _ fun j h => by
      have := congrArg (fun i : S3073x4097.Idx => (i 0).val) h
      change 3072 = r.val at this; omega]
    rw [scatter_miss _ _ _ _ _ lands_bias _ fun j h => by
      have := congrArg (fun i : S3073x4097.Idx => (i 0).val) h
      change 3072 = r.val at this; omega]
    by_cases hc : c.val < 4096
    · refine Eq.trans ?_ (jac_apply V0 ⟨r.val, hr⟩ ⟨c.val, hc⟩)
      exact scatter_hit scatter_S3073x4097_S2_S3072x4096_01_n_01_0 _ _ _ _ lands_jac (fun a b h => by
        have h0 := congrArg (fun i : S3073x4097.Idx => (i 0).val) h
        have h1 := congrArg (fun i : S3073x4097.Idx => (i 1).val) h
        rw [eq_ix2 a, eq_ix2 b]
        exact congrArg₂ ix2 (Fin.ext h0) (Fin.ext h1)) (ix2 ⟨r.val, hr⟩ ⟨c.val, hc⟩)
    · rw [scatter_miss _ _ _ _ _ lands_jac _ fun j h => by
        have := congrArg (fun i : S3073x4097.Idx => (i 1).val) h
        have hj := (j 1).isLt
        change _ < 4096 at hj
        change (j 1).val = c.val at this; omega]
      unfold convEntry
      rw [dif_neg fun h => hc h.2.1]
      pointwise
  · obtain rfl : r = ⟨3072, by decide⟩ := Fin.ext (by have := r.isLt; dsimp only; omega)
    rw [if_neg hr]
    by_cases hc : c.val < 4096
    · rw [dif_pos hc]
      rw [scatter_miss _ _ _ _ _ lands_one _ fun j h => by
        have := congrArg (fun i : S3073x4097.Idx => (i 1).val) h
        change 4096 = c.val at this; omega]
      refine Eq.trans (scatter_hit scatter_S3073x4097_S2_S4096_0_0_01_0 _ _ _ _ lands_bias (fun a b h => by
        have h1 := congrArg (fun i : S3073x4097.Idx => (i 1).val) h
        rw [eq_ix1 a, eq_ix1 b]
        exact congrArg ix1 (Fin.ext h1)) (ix1 ⟨c.val, hc⟩)) ?_
      pointwise
    · obtain rfl : c = ⟨4096, by decide⟩ := Fin.ext (by have := c.isLt; dsimp only; omega)
      rw [dif_neg hc]
      refine Eq.trans (scatter_hit scatter_S3073x4097_S2_S__n_01_01_0 _ _ _ _ lands_one (fun a b h => Subsingleton.elim _ _) (fun a => a.elim0)) ?_
      pointwise

end Cert.Proof.Ref

end
-- ==== Proof.RefBounds.lean ====
/- The reference's two bounds at an index: the sums over positive and negative parts, written into the last row and read out again. -/
module

public import proofs.«01_k».proof.Proof.RefA
public import proofs.«01_k».proof.Proof.Mapped

@[expose] public section

set_option maxRecDepth 16384

noncomputable section

namespace Cert.Proof.Ref

open Cert.ReferenceIdeal Cert.ReferenceIdeal.Gen Idealize.ShloMosaic Idealize.ShloMosaic.TcCoe Idealize.SL.Sem
open Cert.ReferenceIdeal.Value Idealize.ShloMosaic.StableHlo

/-- The one start word of the last row's scatter. -/
abbrev lastRow : IVec S1 32 := broadcastInDim S1 ![] bcast_S_S1 (constantI S_ 32 1024#32)

/-- The scatter of the row lands it in the last row. -/
theorem lands_last (j : S4097.Idx) : scatter_S1025x4097_S1_S4097_0_0_0_0.resultIdx? j lastRow =
    some (ix2 ⟨1024, by decide⟩ ⟨(j 0).val, (j 0).isLt⟩) := by
  refine resultIdx?_eq _ _ _ _ fun a => ?_
  fin_cases a
  · have h : scatter_S1025x4097_S1_S4097_0_0_0_0.start j lastRow 0 = 1024 := by
      unfold ScatterDims.start
      rw [dif_pos (by decide)]; rfl
    have h' : scatter_S1025x4097_S1_S4097_0_0_0_0.window j 0 = 0 := rfl
    show scatter_S1025x4097_S1_S4097_0_0_0_0.start j lastRow 0 + scatter_S1025x4097_S1_S4097_0_0_0_0.window j 0 = (1024 : Int)
    rw [h, h']; rfl
  · have h : scatter_S1025x4097_S1_S4097_0_0_0_0.start j lastRow 1 = 0 := by
      unfold ScatterDims.start
      rw [dif_neg (by decide)]
    have h' : scatter_S1025x4097_S1_S4097_0_0_0_0.window j 1 = (j 0).val := rfl
    show scatter_S1025x4097_S1_S4097_0_0_0_0.start j lastRow 1 + scatter_S1025x4097_S1_S4097_0_0_0_0.window j 1 = ((j 0).val : Int)
    rw [h, h', zero_add]

/-- A row written into the last row, read out, cut and reshaped, at an index. -/
theorem last_row (X : FVec Ideal S1025x4097 .f32) (R : FVec Ideal S4097 .f32) (a b d : Fin 16) :
    (shapeCast S16x16x16 (shapeCast S4096 (extractStridedSlice S1x4096 ![1024, 0] (Host.scatter scatter_S1025x4097_S1_S4097_0_0_0_0
      (fun _ b => b) X lastRow R) slices_S1025x4097_S1x4096_1024_0) shapeCasts_S1x4096_S4096) shapeCasts_S4096_S16x16x16 :
      FVec Ideal S16x16x16 .f32) (ix3 a b d) = R (ix1 (column a b d)) := by
  have h := scatter_hit scatter_S1025x4097_S1_S4097_0_0_0_0 X lastRow R _ lands_last (fun a b h => by
      have h1 := congrArg (fun i : S1025x4097.Idx => (i 1).val) h
      rw [eq_ix1 a, eq_ix1 b]
      exact congrArg ix1 (Fin.ext h1)) (ix1 (column a b d))
  refine Eq.trans ?_ h
  generalize Host.scatter scatter_S1025x4097_S1_S4097_0_0_0_0 (fun _ b => b) X lastRow R = Y
  pointwise
  rfl

/-- A product of the two matrices at an index. -/
theorem product_apply (M : FVec Ideal S1025x3073 .f32) (A : FVec Ideal S3073x4097 .f32) (i : Fin 1025) (k : Fin 4097) :
    (Host.dotGeneral dot_S1025x3073_S3073x4097_S1025x4097_1_0_0_1_n_n none M A : FVec Ideal S1025x4097 .f32) (ix2 i k) =
      ∑ j : Fin 3073, M (ix2 i j) * A (ix2 j k) := by
  pointwise

/-- The mapped constraints at an index. -/
theorem mapped_apply (V0 : Valuation τ sig (Elt Ideal)) (i : Fin 1025) (k : Fin 4097) :
    (res_main_v160 V0 : FVec Ideal S1025x4097 .f32) (ix2 i k) =
      mapped (V0 (Proc.devRef .tc main_arg6)) (V0 (Proc.devRef .tc main_arg4)) (V0 (Proc.devRef .tc main_arg5)) k i := by
  exact (product_apply _ _ i k).trans (Finset.sum_congr rfl fun j _ => congrArg _ (affine_apply V0 j k))

/-- The row of the bounds at a column: positive parts weighed by `p`, negative ones by `q`, the last mapped constraint added. -/
theorem row_apply (V0 : Valuation τ sig (Elt Ideal)) (p q : FVec Ideal S1024 .f32) (k : Fin 4097) :
    (addf (addf (Host.dotGeneral dot_S1024_S1024x4097_S4097_0_0_n_1_n_n none p (maximumf (res_main_v161 V0) (broadcastInDim S1024x4097 ![] bcast_S_S1024x4097 (constant S_ .f32 0x00000000#32))))
      (Host.dotGeneral dot_S1024_S1024x4097_S4097_0_0_n_1_n_n none q (minimumf (res_main_v161 V0) (broadcastInDim S1024x4097 ![] bcast_S_S1024x4097 (constant S_ .f32 0x00000000#32)))))
      (shapeCast S4097 (extractStridedSlice S1x4097 ![1024, 0] (res_main_v160 V0) slices_S1025x4097_S1x4097_1024_0) shapeCasts_S1x4097_S4097) :
      FVec Ideal S4097 .f32) (ix1 k) = partsSum (fun i => p (ix1 i)) (fun i => q (ix1 i))
      (mapped (V0 (Proc.devRef .tc main_arg6)) (V0 (Proc.devRef .tc main_arg4)) (V0 (Proc.devRef .tc main_arg5)) k) := by
  pointwise [res_main_v161]
  simp only [mapped_apply]
  rfl

end Cert.Proof.Ref

end
-- ==== Proof.Finite.lean ====
/- The precondition read back: its side conditions, and that it makes every element it names a real number. -/
module

public import proofs.«01_k».proof.Pre_finite
public import proofs.«01_k».proof.Proof.Mapped
public import Idealize.ShloMosaic.Lib.ReduceAll
public import Idealize.ShloMosaic.Lib.Pointwise

@[expose] public section

set_option maxRecDepth 16384

noncomputable section

namespace Cert.Proof

open Idealize.ShloMosaic

/-- The side conditions of the precondition's operations. -/
theorem finite_facts : Cert.Pre_finite.Facts where
  bcast_S_S16x3x4x4 := by decide
  reducesTo_S16x3x4x4_S_d0_1_2_3 := by decide
  h_S_ := by decide
  bcast_S_S16 := by decide
  reducesTo_S16_S_d0 := by decide
  slices_S1025x3073_S1024x3073_0_0 := by decide
  bcast_S_S1024x3073 := by decide
  reducesTo_S1024x3073_S_d0_1 := by decide
  bcast_S_S1024 := by decide
  reducesTo_S1024_S_d0 := by decide

/-- The word of plus infinity. -/
theorem inf_word : Ideal.ofBits .f32 0x7F800000#32 = ⊤ := by
  simp [Ideal.ofBits, Ideal.ieee]

/-- A number whose size is below infinity is a real. -/
theorem real_of_abs (a : EReal) (h : max a (-a) < ⊤) : ∃ r : ℝ, a = r := by
  induction a with
  | bot => simp at h
  | top => simp at h
  | coe r => exact ⟨r, rfl⟩

/-- A test of a size against infinity that came out true was of a real. -/
theorem real_of_bit (a : EReal) (h : FloatOps.cmpf (F := Ideal) (φ := .f32) .olt (FloatOps.hostAbsf (F := Ideal) (φ := .f32) a)
    (Ideal.ofBits .f32 0x7F800000#32) = 1#1) : ∃ r : ℝ, a = r := by
  refine real_of_abs a ?_
  rw [inf_word] at h
  change BitVec.ofBool (decide (max a (-a) < ⊤)) = 1#1 at h
  by_contra hn
  rw [decide_eq_false hn] at h
  exact absurd h (by decide)

open Cert.Pre_finite in
/-- What the precondition says of the five arrays it names: weights, biases, all rows of constraints but the last, both ends. -/
theorem finite_reads [Facts] (a0 a1 : FVec Ideal S3x32x32 .f32) (a2 a3 : FVec Ideal S1025x3073 .f32) (W : FVec Ideal S16x3x4x4 .f32)
    (B : FVec Ideal S16 .f32) (M : FVec Ideal S1025x3073 .f32) (l u : FVec Ideal S1024 .f32)
    (h : fn (F := Ideal) a0 a1 a2 a3 W B M l u = fun _ => 1#1) :
    (∀ i, ∃ r : ℝ, W i = r) ∧ (∀ i, ∃ r : ℝ, B i = r) ∧ (∀ (i : Fin 1024) (j : Fin 3073), ∃ r : ℝ, M (ix2 i.castSucc j) = r)
      ∧ (∀ i, ∃ r : ℝ, l i = r) ∧ (∀ i, ∃ r : ℝ, u i = r) := by
  haveI : Subsingleton S_.Idx := ⟨fun a b => funext fun x => x.elim0⟩
  have e := congrFun h (fun x => x.elim0)
  obtain ⟨e, h8⟩ := IntOp.andi_eq_one.1 e
  obtain ⟨e, h7⟩ := IntOp.andi_eq_one.1 e
  obtain ⟨e, h6⟩ := IntOp.andi_eq_one.1 e
  obtain ⟨h4, h5⟩ := IntOp.andi_eq_one.1 e
  refine ⟨fun i => real_of_bit _ (Host.reduce_andi_all _ _ _ _ _ h4 i), fun i => real_of_bit _ (Host.reduce_andi_all _ _ _ _ _ h5 i),
    fun i j => ?_, fun i => real_of_bit _ (Host.reduce_andi_all _ _ _ _ _ h7 i), fun i => real_of_bit _ (Host.reduce_andi_all _ _ _ _ _ h8 i)⟩
  have h := Host.reduce_andi_all _ _ _ _ _ h6 (ix2 i j)
  have e : extractStridedSlice S1024x3073 ![0, 0] M Facts.slices_S1025x3073_S1024x3073_0_0 (ix2 i j) = M (ix2 i.castSucc j) := by
    pointwise
    rfl
  rw [← e]
  exact real_of_bit _ h

/-- Every entry of the affine matrix is a real where weights and biases are. -/
theorem affine_real (W : FVec Ideal ⟨4, ![16, 3, 4, 4]⟩ .f32) (B : FVec Ideal ⟨1, ![16]⟩ .f32) (hW : ∀ i, ∃ r : ℝ, W i = r)
    (hB : ∀ i, ∃ r : ℝ, B i = r) (j : Fin 3073) (k : Fin 4097) : ∃ r : ℝ, affine W B j k = r := by
  unfold affine convEntry
  split_ifs
  · exact hW _
  · exact ⟨0, rfl⟩
  · exact hB _
  · exact ⟨1, rfl⟩

/-- Every mapped constraint but the last is a real. -/
theorem mapped_real (M : FVec Ideal ⟨2, ![1025, 3073]⟩ .f32) (W : FVec Ideal ⟨4, ![16, 3, 4, 4]⟩ .f32) (B : FVec Ideal ⟨1, ![16]⟩ .f32)
    (hM : ∀ (i : Fin 1024) (j : Fin 3073), ∃ r : ℝ, M (ix2 i.castSucc j) = r) (hW : ∀ i, ∃ r : ℝ, W i = r)
    (hB : ∀ i, ∃ r : ℝ, B i = r) (k : Fin 4097) (i : Fin 1024) : ∃ r : ℝ, mapped M W B k i.castSucc = r :=
  sum_mul_real _ _ (hM i) fun j => affine_real W B hW hB j k

end Cert.Proof

end
-- ==== Proof.Algebra.lean ====
/- The kernel and the reference at extended reals: all four results agree on finite inputs. -/
module

public import proofs.«01_k».proof.Proof.Frames
public import proofs.«01_k».proof.Proof.Bounds
public import proofs.«01_k».proof.Proof.RefBounds
public import proofs.«01_k».proof.Proof.Finite

@[expose] public section

set_option maxRecDepth 16384

noncomputable section

namespace Cert.Proof

open Idealize.ShloMosaic Idealize.ShloMosaic.TcCoe Idealize.SL Idealize.SL.Sem

section
open Cert.KernelIdeal Cert.Proof.Run

variable (m : (ℓ : Loc nD τ sig) → Buf (Elt Ideal) ℓ)

/-- The lower bounds, from the launch's arguments. -/
def lowSpec (c : Dev nD) : FVec Ideal S16x16x16 .f32 := fun i => partsSum (lows m c) (ups m c) (col m c (column (i 0) (i 1) (i 2)))

/-- The upper bounds, from the launch's arguments. -/
def upSpec (c : Dev nD) : FVec Ideal S16x16x16 .f32 := fun i => partsSum (ups m c) (lows m c) (col m c (column (i 0) (i 1) (i 2)))

/-- The affine matrix, from the launch's arguments. -/
def matSpec (c : Dev nD) : FVec Ideal S3073x4097 .f32 := fun i =>
  affine (m ((c : Thread nD τ).loc main_arg4)) (m ((c : Thread nD τ).loc main_arg5)) (i 0) (i 1)

/-- The kernel's matrix is the affine one. -/
theorem kernel_mat (c : Dev nD) (G : Left m c) : W4 m c G main_v6 = matSpec m c := by
  rw [W4_v6]
  refine funext fun (i : S3073x4097.Idx) => ?_
  rw [eq_ix2 i]
  exact matrix_apply m c _ _

variable [Cert.Pre_finite.Facts]

/-- The kernel's lower bounds on finite inputs. -/
theorem kernel_low (h : Cert.Pre_KernelIdeal_finite m) (c : Dev nD) (G : Left m c) : W4 m c G main_v22 = lowSpec m c := by
  obtain ⟨hW, hB, hM, hl, hu⟩ := finite_reads _ _ _ _ _ _ _ _ _ (h c)
  refine funext fun (i : S16x16x16.Idx) => ?_
  rw [eq_ix3 i]
  exact (W4_v22 m c G _ _ _).trans (lower_eq _ _ _ (fun i => hl _) (fun i => hu _) fun i => mapped_real _ _ _ hM hW hB _ i)

/-- The kernel's upper bounds on finite inputs. -/
theorem kernel_up (h : Cert.Pre_KernelIdeal_finite m) (c : Dev nD) (G : Left m c) : W4 m c G main_v25 = upSpec m c := by
  obtain ⟨hW, hB, hM, hl, hu⟩ := finite_reads _ _ _ _ _ _ _ _ _ (h c)
  refine funext fun (i : S16x16x16.Idx) => ?_
  rw [eq_ix3 i]
  exact (W4_v25 m c G _ _ _).trans (upper_eq _ _ _ (fun i => hl _) (fun i => hu _) fun i => mapped_real _ _ _ hM hW hB _ i)

end

/-- The kernel and the reference end with the same four results on finite inputs. -/
theorem algebraic_finite [Cert.Pre_finite.Facts] : Cert.algebraic_KernelIdeal_ReferenceIdeal_pre_finite :=
  fun m g m' g' hpre hagree => by
  refine ⟨lowSpec m, upSpec m, matSpec m, matSpec m, ?_, ?_⟩
  · refine (θ_run Cert.KernelIdeal.defs _ _).mono (fun r h c => ?_) (run_main (F := Ideal) m g)
    obtain ⟨⟨G, h22, h25, h6⟩, hargs⟩ := h.1 c
    have e6 := h6.trans (kernel_mat m c G)
    exact ⟨h22.trans (kernel_low m hpre c G), h25.trans (kernel_up m hpre c G), e6, e6, hargs⟩
  · refine (θ_run Cert.ReferenceIdeal.defs _ _).mono (fun r h c => ?_) (Cert.ReferenceIdeal.Value.run (F := Ideal) m' g')
    obtain ⟨h190, h193, h159, -, hargs⟩ := h c
    obtain ⟨-, -, -, -, a4, a5, a6, a7, a8⟩ := hagree c
    have e := h159.trans (show _ = matSpec m c from by
      refine funext fun (i : Cert.ReferenceIdeal.S3073x4097.Idx) => ?_
      rw [eq_ix2 i]
      refine (Ref.affine_apply _ _ _).trans ?_
      unfold matSpec
      rw [← a4, ← a5]
      rfl)
    refine ⟨h190.trans ?_, h193.trans ?_, e, e, hargs⟩
    · refine funext fun (i : Cert.ReferenceIdeal.S16x16x16.Idx) => ?_
      rw [eq_ix3 i]
      refine (Ref.last_row _ _ _ _ _).trans ((Ref.row_apply _ _ _ _).trans ?_)
      unfold lowSpec Run.lows Run.ups Run.col
      rw [← a4, ← a5, ← a6, ← a7, ← a8]
      rfl
    · refine funext fun (i : Cert.ReferenceIdeal.S16x16x16.Idx) => ?_
      rw [eq_ix3 i]
      refine (Ref.last_row _ _ _ _ _).trans ((Ref.row_apply _ _ _ _).trans ?_)
      unfold upSpec Run.lows Run.ups Run.col
      rw [← a4, ← a5, ← a6, ← a7, ← a8]
      rfl

end Cert.Proof

end
-- ==== Proof.lean ====
/- The certificate: the frames (Proof/Frames.lean), the values (Proof/Algebra.lean), put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebra

@[expose] public section

noncomputable section

namespace Cert.Proof

open Idealize.ShloMosaic Idealize.SL.Sem Cert.Kernel

/-- Every claim of the certificate: the frames, with and without the precondition, the kernel kept by idealizing, the values. -/
theorem claim : Cert.Claim :=
  ⟨Cert.Kernel.Gen.facts, Cert.KernelIdeal.Gen.facts, Cert.ReferenceIdeal.Gen.facts, finite_facts,
    frame_kernel, frame_kernelIdeal, (haveI := finite_facts; frame_kernelIdeal_finite), frame_reference,
    (haveI := finite_facts; frame_reference_finite), trivial, (haveI := finite_facts; algebraic_finite)⟩

end Cert.Proof

end
